-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x768 : Shape := ⟨3, ![4, 8192, 768]⟩
abbrev S8x768 : Shape := ⟨2, ![8, 768]⟩
abbrev S8 : Shape := ⟨1, ![8]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S8x768 : S_.BroadcastsInDim S8x768 (![] : Fin 0 → Fin S8x768.rank)
  reducesTo_S8x768_S_d0_1 : S8x768.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S4x8192x768 .f32) (main_arg1 : FVec F S8x768 .f32) (main_arg2 : FVec F S8 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S4x8192x768 : Shape := ⟨3, ![4, 8192, 768]⟩
abbrev S8x768 : Shape := ⟨2, ![8, 768]⟩
abbrev S8 : Shape := ⟨1, ![8]⟩
abbrev S32768x768 : Shape := ⟨2, ![32768, 768]⟩
abbrev S768x8 : Shape := ⟨2, ![768, 8]⟩
abbrev S1x8 : Shape := ⟨2, ![1, 8]⟩
abbrev S8x32768 : Shape := ⟨2, ![8, 32768]⟩
abbrev S32768x1 : Shape := ⟨2, ![32768, 1]⟩
abbrev S4096x768 : Shape := ⟨2, ![4096, 768]⟩
abbrev S8x4096 : Shape := ⟨2, ![8, 4096]⟩
abbrev S4096x1 : Shape := ⟨2, ![4096, 1]⟩
abbrev S4096x8 : Shape := ⟨2, ![4096, 8]⟩
abbrev S4096 : Shape := ⟨1, ![4096]⟩
abbrev S8192 : Shape := ⟨1, ![8192]⟩
abbrev S8x256 : Shape := ⟨2, ![8, 256]⟩
abbrev S256 : Shape := ⟨1, ![256]⟩
abbrev S_ : Shape := ⟨0, ![]⟩
abbrev S1x16 : Shape := ⟨2, ![1, 16]⟩
abbrev S16 : Shape := ⟨1, ![16]⟩
abbrev S24576x1 : Shape := ⟨2, ![24576, 1]⟩
abbrev S8192x1 : Shape := ⟨2, ![8192, 1]⟩

abbrev nBuf : Table → Nat
  | .hbm => 17
  | .local .tc .vmem => 10
  | .local .scVector .vmem => 3
  | _ => 0

abbrev bufTy : (tb : Table) → Fin (nBuf tb) → BufTy
  | .hbm, ⟨0, _⟩ => ⟨S4x8192x768, .f32⟩
  | .hbm, ⟨1, _⟩ => ⟨S8x768, .f32⟩
  | .hbm, ⟨2, _⟩ => ⟨S8, .f32⟩
  | .hbm, ⟨3, _⟩ => ⟨S32768x768, .f32⟩
  | .hbm, ⟨4, _⟩ => ⟨S768x8, .f32⟩
  | .hbm, ⟨5, _⟩ => ⟨S1x8, .f32⟩
  | .hbm, ⟨6, _⟩ => ⟨S8x32768, .f32⟩
  | .hbm, ⟨7, _⟩ => ⟨S32768x1, .f32⟩
  | .hbm, ⟨8, _⟩ => ⟨S32768x1, .i32⟩
  | .hbm, ⟨9, _⟩ => ⟨S8192, .f32⟩
  | .hbm, ⟨10, _⟩ => ⟨S8192, .i32⟩
  | .hbm, ⟨11, _⟩ => ⟨S24576x1, .f32⟩
  | .hbm, ⟨12, _⟩ => ⟨S8192x1, .f32⟩
  | .hbm, ⟨13, _⟩ => ⟨S32768x1, .f32⟩
  | .hbm, ⟨14, _⟩ => ⟨S24576x1, .i32⟩
  | .hbm, ⟨15, _⟩ => ⟨S8192x1, .i32⟩
  | .hbm, ⟨16, _⟩ => ⟨S32768x1, .i32⟩
  | .local .tc .vmem, ⟨0, _⟩ => ⟨S4096x768, .f32⟩
  | .local .tc .vmem, ⟨1, _⟩ => ⟨S4096x768, .f32⟩
  | .local .tc .vmem, ⟨2, _⟩ => ⟨S768x8, .f32⟩
  | .local .tc .vmem, ⟨3, _⟩ => ⟨S1x8, .f32⟩
  | .local .tc .vmem, ⟨4, _⟩ => ⟨S8x4096, .f32⟩
  | .local .tc .vmem, ⟨5, _⟩ => ⟨S8x4096, .f32⟩
  | .local .tc .vmem, ⟨6, _⟩ => ⟨S4096x1, .f32⟩
  | .local .tc .vmem, ⟨7, _⟩ => ⟨S4096x1, .f32⟩
  | .local .tc .vmem, ⟨8, _⟩ => ⟨S4096x1, .i32⟩
  | .local .tc .vmem, ⟨9, _⟩ => ⟨S4096x1, .i32⟩
  | .local .scVector .vmem, ⟨0, _⟩ => ⟨S8x256, .f32⟩
  | .local .scVector .vmem, ⟨1, _⟩ => ⟨S256, .f32⟩
  | .local .scVector .vmem, ⟨2, _⟩ => ⟨S256, .i32⟩
  | _, _ => ⟨S4x8192x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v3_0_scv : Ref sig .scVector := ⟨.hbm, 6, rfl⟩
abbrev main_v4_0_scv : Ref sig .scVector := ⟨.hbm, 9, rfl⟩
abbrev main_v4_1_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 2 → Nat :=
  let c0_i32_3_r0 : BitVec 32 := 0#32
  let c24576_i32 : BitVec 32 := 24576#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c24576_i32 v2
  ![0, v3.toNat]
@[reducible] def k1_t1_loop : Scf.Loop 32 :=
  let c0_i32_0 : BitVec 32 := 0#32
  let c16_i32 : BitVec 32 := 16#32
  let v4 : BitVec 32 := Scalar.addi c0_i32_0 c16_i32
  let c1_i32 : BitVec 32 := 1#32
  ⟨c0_i32_0, v4, c1_i32⟩
def k1_off2 (k1_t1 : Fin k1_t1_loop.trips) : Fin 2 → Nat :=
  let c0_i32_4 : BitVec 32 := 0#32
  let v8 : Index := Scalar.indexCast c0_i32_4
  let c0_i32_0 : BitVec 32 := 0#32
  let c1_i32 : BitVec 32 := 1#32
  let arg8 : BitVec 32 := Scf.iv c0_i32_0 c1_i32 k1_t1
  let c16_i32_3 : BitVec 32 := 16#32
  let v7 : BitVec 32 := Scalar.muli arg8 c16_i32_3
  let v9 : Index := Scalar.indexCast v7
  ![0, v9.toNat]
def k1_off3 (k1_t1 : Fin k1_t1_loop.trips) : Fin 2 → Nat :=
  let c1_i32_5 : BitVec 32 := 1#32
  let v12 : Index := Scalar.indexCast c1_i32_5
  let c0_i32_0 : BitVec 32 := 0#32
  let c1_i32 : BitVec 32 := 1#32
  let arg8 : BitVec 32 := Scf.iv c0_i32_0 c1_i32 k1_t1
  let c16_i32_3 : BitVec 32 := 16#32
  let v7 : BitVec 32 := Scalar.muli arg8 c16_i32_3
  let v13 : Index := Scalar.indexCast v7
  ![1, v13.toNat]
def k1_off4 (k1_t1 : Fin k1_t1_loop.trips) : Fin 2 → Nat :=
  let c2_i32_6 : BitVec 32 := 2#32
  let v16 : Index := Scalar.indexCast c2_i32_6
  let c0_i32_0 : BitVec 32 := 0#32
  let c1_i32 : BitVec 32 := 1#32
  let arg8 : BitVec 32 := Scf.iv c0_i32_0 c1_i32 k1_t1
  let c16_i32_3 : BitVec 32 := 16#32
  let v7 : BitVec 32 := Scalar.muli arg8 c16_i32_3
  let v17 : Index := Scalar.indexCast v7
  ![2, v17.toNat]
def k1_off5 (k1_t1 : Fin k1_t1_loop.trips) : Fin 2 → Nat :=
  let c3_i32 : BitVec 32 := 3#32
  let v20 : Index := Scalar.indexCast c3_i32
  let c0_i32_0 : BitVec 32 := 0#32
  let c1_i32 : BitVec 32 := 1#32
  let arg8 : BitVec 32 := Scf.iv c0_i32_0 c1_i32 k1_t1
  let c16_i32_3 : BitVec 32 := 16#32
  let v7 : BitVec 32 := Scalar.muli arg8 c16_i32_3
  let v21 : Index := Scalar.indexCast v7
  ![3, v21.toNat]
def k1_off6 (k1_t1 : Fin k1_t1_loop.trips) : Fin 2 → Nat :=
  let c4_i32 : BitVec 32 := 4#32
  let v24 : Index := Scalar.indexCast c4_i32
  let c0_i32_0 : BitVec 32 := 0#32
  let c1_i32 : BitVec 32 := 1#32
  let arg8 : BitVec 32 := Scf.iv c0_i32_0 c1_i32 k1_t1
  let c16_i32_3 : BitVec 32 := 16#32
  let v7 : BitVec 32 := Scalar.muli arg8 c16_i32_3
  let v25 : Index := Scalar.indexCast v7
  ![4, v25.toNat]
def k1_off7 (k1_t1 : Fin k1_t1_loop.trips) : Fin 2 → Nat :=
  let c5_i32 : BitVec 32 := 5#32
  let v28 : Index := Scalar.indexCast c5_i32
  let c0_i32_0 : BitVec 32 := 0#32
  let c1_i32 : BitVec 32 := 1#32
  let arg8 : BitVec 32 := Scf.iv c0_i32_0 c1_i32 k1_t1
  let c16_i32_3 : BitVec 32 := 16#32
  let v7 : BitVec 32 := Scalar.muli arg8 c16_i32_3
  let v29 : Index := Scalar.indexCast v7
  ![5, v29.toNat]
def k1_off8 (k1_t1 : Fin k1_t1_loop.trips) : Fin 2 → Nat :=
  let c6_i32 : BitVec 32 := 6#32
  let v32 : Index := Scalar.indexCast c6_i32
  let c0_i32_0 : BitVec 32 := 0#32
  let c1_i32 : BitVec 32 := 1#32
  let arg8 : BitVec 32 := Scf.iv c0_i32_0 c1_i32 k1_t1
  let c16_i32_3 : BitVec 32 := 16#32
  let v7 : BitVec 32 := Scalar.muli arg8 c16_i32_3
  let v33 : Index := Scalar.indexCast v7
  ![6, v33.toNat]
def k1_off9 (k1_t1 : Fin k1_t1_loop.trips) : Fin 2 → Nat :=
  let c7_i32 : BitVec 32 := 7#32
  let v36 : Index := Scalar.indexCast c7_i32
  let c0_i32_0 : BitVec 32 := 0#32
  let c1_i32 : BitVec 32 := 1#32
  let arg8 : BitVec 32 := Scf.iv c0_i32_0 c1_i32 k1_t1
  let c16_i32_3 : BitVec 32 := 16#32
  let v7 : BitVec 32 := Scalar.muli arg8 c16_i32_3
  let v37 : Index := Scalar.indexCast v7
  ![7, v37.toNat]
def k1_off10 (k1_t1 : Fin k1_t1_loop.trips) : Fin 1 → Nat :=
  let c0_i32_0 : BitVec 32 := 0#32
  let c1_i32 : BitVec 32 := 1#32
  let arg8 : BitVec 32 := Scf.iv c0_i32_0 c1_i32 k1_t1
  let c16_i32_3 : BitVec 32 := 16#32
  let v7 : BitVec 32 := Scalar.muli arg8 c16_i32_3
  let v94 : Index := Scalar.indexCast v7
  ![v94.toNat]
def k1_off11 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_2 : BitVec 32 := 256#32
  let v6 : BitVec 32 := Scalar.muli v1 c256_i32_2
  ![v6.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x768 : Shape := ⟨3, ![4, 8192, 768]⟩
abbrev S8x768 : Shape := ⟨2, ![8, 768]⟩
abbrev S8 : Shape := ⟨1, ![8]⟩
abbrev S32768x768 : Shape := ⟨2, ![32768, 768]⟩
abbrev S768x8 : Shape := ⟨2, ![768, 8]⟩
abbrev S32768x8 : Shape := ⟨2, ![32768, 8]⟩
abbrev S1x8 : Shape := ⟨2, ![1, 8]⟩
abbrev S_ : Shape := ⟨0, ![]⟩
abbrev S32768 : Shape := ⟨1, ![32768]⟩
abbrev S32768x1 : Shape := ⟨2, ![32768, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8x768, .f32⟩
  | .hbm, ⟨2, _⟩ => ⟨S8, .f32⟩
  | .hbm, ⟨3, _⟩ => ⟨S32768x768, .f32⟩
  | .hbm, ⟨4, _⟩ => ⟨S768x8, .f32⟩
  | .hbm, ⟨5, _⟩ => ⟨S32768x8, .f32⟩
  | .hbm, ⟨6, _⟩ => ⟨S1x8, .f32⟩
  | .hbm, ⟨7, _⟩ => ⟨S32768x8, .f32⟩
  | .hbm, ⟨8, _⟩ => ⟨S32768x8, .f32⟩
  | .hbm, ⟨9, _⟩ => ⟨S_, .f32⟩
  | .hbm, ⟨10, _⟩ => ⟨S32768, .f32⟩
  | .hbm, ⟨11, _⟩ => ⟨S_, .f32⟩
  | .hbm, ⟨12, _⟩ => ⟨S32768, .f32⟩
  | .hbm, ⟨13, _⟩ => ⟨S32768, .f32⟩
  | .hbm, ⟨14, _⟩ => ⟨S32768x1, .f32⟩
  | .hbm, ⟨15, _⟩ => ⟨S32768x8, .f32⟩
  | .hbm, ⟨16, _⟩ => ⟨S32768x8, .f32⟩
  | .hbm, ⟨17, _⟩ => ⟨S32768x8, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S32768x8, .f32⟩
  | .hbm, ⟨22, _⟩ => ⟨S32768x8, .f32⟩
  | .hbm, ⟨23, _⟩ => ⟨S32768x1, .f32⟩
  | .hbm, ⟨24, _⟩ => ⟨S32768x1, .i32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩

abbrev nD : Nat := 1
abbrev τ : Topo := Topo.v7x

variable {F : FTy → Type} [FloatOps F]
-- ==== Proof.Setup.lean ====
/-
  The set-up of the run: the SparseCore call's configuration, the TensorCore call's body table beside it, and the
  algebra the two protocols take their tokens from — the SparseCore handshakes' rounds, the TensorCore pipeline's
  rounds, and the counters of the tiles' own transfers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.RegionArrays
public import Idealize.ShloMosaic.Lib.Pipeline.FrameBody
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program without the SparseCore call's own. -/
abbrev ΛP : Labels := Pipeline.Sig Λ₀ (Fin 1) fun p => (pcfgs (F := F) p).Adm
/-- The SparseCore call. -/
abbrev K : SparseCore.Cfg τ sig (ΛP (F := F)) 1 := sc (F := F)
/-- Sixteen tiles on each of two SparseCores. -/
theorem nSub_eq : (K (F := F)).nSub 0 = 16 := rfl
theorem nCore_eq : (K (F := F)).nCore 0 = 2 := rfl
/-- The body table under the SparseCore call: the TensorCore pipeline's over the kernels'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch decides of the SparseCore call's semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra -/

/-- The SparseCore handshakes' rounds. -/
abbrev UH : Type := URounds (GSem nD τ sig) ℕ
/-- The TensorCore pipeline's rounds. -/
abbrev UP : Type := URounds (GSem nD τ sig) Unit
/-- The three components side by side. -/
abbrev UU : Type := UH × (UP × Counters)

local notation "𝕄" => MT nD τ sig (HIx 1) (Elt F) ℕ UU ℕ

/-- Where the handshakes' rounds sit, -/
abbrev EH : Emb UH (MT nD τ sig (HIx 1) (Elt F) ℕ UU ℕ) := embL
/-- and the pipeline's. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

end Cert.Proof.Router

end
-- ==== Proof.Tile.lean ====
/-
  The SparseCore task: one tile's 256 tokens. A tile copies its 8 × 256 block of the transposed logits into its
  scratch, walks it in sixteen chunks of sixteen tokens — each chunk's top score and index computed lane by lane —, and
  copies the two 256-word results out to its part of the two result arrays. The run is proved once, at a symbolic tile,
  with what it leaves stated as a function of the logits array.
-/
module

public import proofs.«01_k».proof.Proof.Setup

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays -/

/-- The transposed logits, the SparseCore's scores and its indices, in the device's main memory. -/
abbrev ltLoc (d : Dev nD) : Loc nD τ sig := (SparseCore.T d).loc main_v3_0
abbrev scLoc (d : Dev nD) : Loc nD τ sig := (SparseCore.T d).loc main_v4_0
abbrev ixLoc (d : Dev nD) : Loc nD τ sig := (SparseCore.T d).loc main_v4_1

local notation "ltV" => (Memref.whole Cert.KernelIdeal.main_v3_0_scv : Memref Cert.KernelIdeal.sig Kind.scVector Space.hbm Cert.KernelIdeal.S8x32768 EltTy.f32)
local notation "scV" => (Memref.whole Cert.KernelIdeal.main_v4_0_scv : Memref Cert.KernelIdeal.sig Kind.scVector Space.hbm Cert.KernelIdeal.S8192 EltTy.f32)
local notation "ixV" => (Memref.whole Cert.KernelIdeal.main_v4_1_scv : Memref Cert.KernelIdeal.sig Kind.scVector Space.hbm Cert.KernelIdeal.S8192 EltTy.i32)
local notation "lbV" => (Memref.whole Cert.KernelIdeal.cc1_scratch0 : Memref Cert.KernelIdeal.sig Kind.scVector Space.vmem Cert.KernelIdeal.S8x256 EltTy.f32)
local notation "sbV" => (Memref.whole Cert.KernelIdeal.cc1_scratch1 : Memref Cert.KernelIdeal.sig Kind.scVector Space.vmem Cert.KernelIdeal.S256 EltTy.f32)
local notation "ibV" => (Memref.whole Cert.KernelIdeal.cc1_scratch2 : Memref Cert.KernelIdeal.sig Kind.scVector Space.vmem Cert.KernelIdeal.S256 EltTy.i32)

/-! ## The parts of the result arrays -/

theorem div32 : 32 ∣ S8192.size 0 := ⟨256, rfl⟩
/-- Part `w` of a result array: its 256 tokens. -/
abbrev prt (w : Fin 32) : Rect S8192 := Rect.part (s := S8192) (a₀ := 0) div32 w
abbrev prtSet (w : Fin 32) : Finset S8192.Idx := (prt w).set

/-- The tile at coordinates `L` is number `2 s + c`. -/
abbrev wid (L : grid1.Coords) : Fin 32 := ⟨2 * (L 1).val + (L 0).val, by
  have h0 : (L 0).val < 2 := (L 0).isLt
  have h1 : (L 1).val < 16 := (L 1).isLt
  omega⟩

abbrev outR (L : grid1.Coords) : Rect S8192 := Rect.unit (s := S8192) (k1_off11 L) S256.size (k1_off11_inb L)
abbrev inR (L : grid1.Coords) : Rect S8x32768 := Rect.unit (s := S8x32768) (k1_off1 L) S8x256.size (k1_off1_inb L)
abbrev scK (L : grid1.Coords) : Memref sig .scVector .hbm S256 .f32 := (scV).slice (outR L) (fun _ => rfl)
abbrev ixK (L : grid1.Coords) : Memref sig .scVector .hbm S256 .i32 := (ixV).slice (outR L) (fun _ => rfl)

theorem outR_eq (L : grid1.Coords) : outR L = prt (wid L) := by
  unfold outR prt Rect.part Rect.block
  congr 1 <;> funext a
  · rw [k1_off11_eq]
    match a with
    | 0 => simp [Shape.partIx, Shape.partSize]; omega
  · match a with
    | 0 => simp [Shape.partSize]

theorem set_scK (L : grid1.Coords) : (scK L).view.set = prtSet (wid L) := by
  refine (View.set_slice_whole _ _).trans ?_
  rw [outR_eq]
theorem set_ixK (L : grid1.Coords) : (ixK L).view.set = prtSet (wid L) := by
  refine (View.set_slice_whole _ _).trans ?_
  rw [outR_eq]

/-! ## What a tile computes -/

variable [FloatOps F]

/-- Row `e` of the sixteen tokens of chunk `t`, out of a tile's block `G` of logits. -/
abbrev row0 (G : S8x256.Idx → Elt F .f32) (t : Fin k1_t1_loop.trips) : Vec F S1x16 .f32 := (lbV).view.readAt (Elt F) (Rect.unit (s := S8x256) (k1_off2 t) S1x16.size (k1_off2_inb t)).toLoadRect G
abbrev row1 (G : S8x256.Idx → Elt F .f32) (t : Fin k1_t1_loop.trips) : Vec F S1x16 .f32 := (lbV).view.readAt (Elt F) (Rect.unit (s := S8x256) (k1_off3 t) S1x16.size (k1_off3_inb t)).toLoadRect G
abbrev row2 (G : S8x256.Idx → Elt F .f32) (t : Fin k1_t1_loop.trips) : Vec F S1x16 .f32 := (lbV).view.readAt (Elt F) (Rect.unit (s := S8x256) (k1_off4 t) S1x16.size (k1_off4_inb t)).toLoadRect G
abbrev row3 (G : S8x256.Idx → Elt F .f32) (t : Fin k1_t1_loop.trips) : Vec F S1x16 .f32 := (lbV).view.readAt (Elt F) (Rect.unit (s := S8x256) (k1_off5 t) S1x16.size (k1_off5_inb t)).toLoadRect G
abbrev row4 (G : S8x256.Idx → Elt F .f32) (t : Fin k1_t1_loop.trips) : Vec F S1x16 .f32 := (lbV).view.readAt (Elt F) (Rect.unit (s := S8x256) (k1_off6 t) S1x16.size (k1_off6_inb t)).toLoadRect G
abbrev row5 (G : S8x256.Idx → Elt F .f32) (t : Fin k1_t1_loop.trips) : Vec F S1x16 .f32 := (lbV).view.readAt (Elt F) (Rect.unit (s := S8x256) (k1_off7 t) S1x16.size (k1_off7_inb t)).toLoadRect G
abbrev row6 (G : S8x256.Idx → Elt F .f32) (t : Fin k1_t1_loop.trips) : Vec F S1x16 .f32 := (lbV).view.readAt (Elt F) (Rect.unit (s := S8x256) (k1_off8 t) S1x16.size (k1_off8_inb t)).toLoadRect G
abbrev row7 (G : S8x256.Idx → Elt F .f32) (t : Fin k1_t1_loop.trips) : Vec F S1x16 .f32 := (lbV).view.readAt (Elt F) (Rect.unit (s := S8x256) (k1_off9 t) S1x16.size (k1_off9_inb t)).toLoadRect G

/-- Chunk `t`'s sixteen scores, -/
def chunkS (G : S8x256.Idx → Elt F .f32) (t : Fin k1_t1_loop.trips) : FVec F S16 .f32 :=
  k1_pay8 (k1_pay10 (row0 G t)) (k1_pay11 (row1 G t)) (k1_pay12 (row2 G t)) (k1_pay13 (row3 G t)) (k1_pay14 (row4 G t)) (k1_pay15 (row5 G t))
    (k1_pay16 (row6 G t)) (k1_pay17 (row7 G t)) (k1_pay23 (row0 G t) (row1 G t) (row2 G t) (row3 G t))
/-- and its sixteen indices. -/
def chunkI (G : S8x256.Idx → Elt F .f32) (t : Fin k1_t1_loop.trips) : IVec S16 32 :=
  k1_pay9 (k1_pay14 (row4 G t)) (k1_pay15 (row5 G t)) (k1_pay16 (row6 G t)) (k1_pay17 (row7 G t))
    (k1_pay23 (row0 G t) (row1 G t) (row2 G t) (row3 G t)) (k1_pay24 (row0 G t) (row1 G t) (row2 G t) (row3 G t))

/-- Token `x`'s chunk and its lane in it. -/
abbrev chunkOf (x : S256.Idx) : Fin k1_t1_loop.trips := ⟨(x 0).val / 16, by
  have h : (x 0).val < 256 := (x 0).isLt
  show _ < 16
  omega⟩
abbrev laneOf (x : S256.Idx) : S16.Idx := fun | 0 => ⟨(x 0).val % 16, Nat.mod_lt _ (show 0 < 16 by decide)⟩

/-- A tile's 256 scores and indices, of its block of logits. -/
def tileS (G : S8x256.Idx → Elt F .f32) (x : S256.Idx) : Elt F .f32 := chunkS G (chunkOf x) (laneOf x)
def tileI (G : S8x256.Idx → Elt F .f32) (x : S256.Idx) : Elt F .i32 := chunkI G (chunkOf x) (laneOf x)

/-- Tile `w`'s block of the transposed logits: its 256 columns past the TensorCore's 24576. -/
def blockL (g : S8x32768.Idx → Elt F .f32) (w : Fin 32) : S8x256.Idx → Elt F .f32 := fun y =>
  g fun a => match a with
    | 0 => y 0
    | 1 => ⟨24576 + 256 * w.val + (y 1).val, by
        have h : (y 1).val < 256 := (y 1).isLt
        have hw := w.isLt
        show _ < 32768
        omega⟩

/-- Token `n` of the 8192 is tile `n / 256`'s token `n % 256`. -/
abbrev tileOf (n : S8192.Idx) : Fin 32 := ⟨(n 0).val / 256, by
  have h : (n 0).val < 8192 := (n 0).isLt
  omega⟩
abbrev tokOf (n : S8192.Idx) : S256.Idx := fun | 0 => ⟨(n 0).val % 256, Nat.mod_lt _ (show 0 < 256 by decide)⟩

/-- The SparseCores' 8192 scores and indices, of the transposed logits. -/
def coreS (g : S8x32768.Idx → Elt F .f32) (n : S8192.Idx) : Elt F .f32 := tileS (blockL g (tileOf n)) (tokOf n)
def coreI (g : S8x32768.Idx → Elt F .f32) (n : S8192.Idx) : Elt F .i32 := tileI (blockL g (tileOf n)) (tokOf n)

/-! ## The tile's own buffers and semaphores -/

section Own

variable (d : Dev nD) (L : grid1.Coords)

abbrev cV (L : grid1.Coords) : Fin τ.nSC := (L 0).castLE hcore1
abbrev jV (L : grid1.Coords) : Fin τ.nSub := (L 1).castLE hsub1

abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)

/-- The three transfers' semaphores are among the tile's own. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L))) fun g => semVal g 0) := by
  unfold SparseCore.Cfg.ownSems0
  rw [SparseCore.bigSep_erase' ((mem_ownCells (g := cell0 d (cV L) (jV L))).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc1_scoped2.sem : SemLoc sig).isScoped .scVector = true; decide⟩⟩⟩)]

/-- The three scratch buffers are among the tile's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  have own0 := SparseCore.Cfg.mem_ownRefs_of_owner (p := Proc.scVector (cV L) (jV L)) (b := (Proc.scVector (cV L) (jV L)).devRef cc1_scratch0) rfl
  have own1 := SparseCore.Cfg.mem_ownRefs_of_owner (p := Proc.scVector (cV L) (jV L)) (b := (Proc.scVector (cV L) (jV L)).devRef cc1_scratch1) rfl
  have own2 := SparseCore.Cfg.mem_ownRefs_of_owner (p := Proc.scVector (cV L) (jV L)) (b := (Proc.scVector (cV L) (jV L)).devRef cc1_scratch2) rfl
  have ne10 : (Proc.scVector (cV L) (jV L)).devRef cc1_scratch1 ≠ (Proc.scVector (cV L) (jV L)).devRef cc1_scratch0 :=
    fun e => absurd (Proc.devRef_injective _ e) (show (cc1_scratch1 : Ref sig .scVector) ≠ cc1_scratch0 by decide)
  have ne20 : (Proc.scVector (cV L) (jV L)).devRef cc1_scratch2 ≠ (Proc.scVector (cV L) (jV L)).devRef cc1_scratch0 :=
    fun e => absurd (Proc.devRef_injective _ e) (show (cc1_scratch2 : Ref sig .scVector) ≠ cc1_scratch0 by decide)
  have ne21 : (Proc.scVector (cV L) (jV L)).devRef cc1_scratch2 ≠ (Proc.scVector (cV L) (jV L)).devRef cc1_scratch1 :=
    fun e => absurd (Proc.devRef_injective _ e) (show (cc1_scratch2 : Ref sig .scVector) ≠ cc1_scratch1 by decide)
  refine (SparseCore.bigSep_erase' own0).trans ?_
  rw [SparseCore.bigSep_erase' (Finset.mem_erase.mpr ⟨ne10, own1⟩),
    SparseCore.bigSep_erase' (Finset.mem_erase.mpr ⟨ne21, Finset.mem_erase.mpr ⟨ne20, own2⟩⟩)]

end Own

/-! ## The loop -/

/-- A buffer of 256 words agrees with `w` on its first `16 k`. -/
def UpTo {α : Type} (k : ℕ) (f w : S256.Idx → α) : Prop := ∀ x : S256.Idx, (x 0).val < 16 * k → f x = w x

/-- A chunk stored at its place carries the agreement one chunk further. -/
theorem upTo_store {e : EltTy} (v : View sig .scVector .vmem S256 e) (k : Fin k1_t1_loop.trips)
    (h : ∀ a, k1_off10 k a + S16.size a ≤ S256.size a) (f : v.ty.Contents (Elt F)) (w : S256.Idx → Elt F e) (c : S16.Idx → Elt F e)
    (hf : UpTo k.val (v.read (Elt F) f) w) (hc : ∀ x : S256.Idx, chunkOf x = k → w x = c (laneOf x)) :
    UpTo (k.val + 1) (v.read (Elt F) (v.writes (Elt F) f [⟨Rect.unit (s := S256) (k1_off10 k) S16.size h, c⟩])) w := by
  intro x hx
  have h10 : k1_off10 k 0 = 16 * k.val := by rw [k1_off10_eq]; rfl
  by_cases hk : (x 0).val < 16 * k.val
  · exact (View.read_writes_cons_miss_of_axis v f _ _ x 0 (16 * k.val) 16 h10 rfl rfl (.inl hk)).trans (hf x hk)
  · have e : chunkOf x = k := Fin.ext (by show (x 0).val / 16 = k.val; omega)
    rw [hc x e]
    refine View.read_writes_cons_hit_of_coords v f (Rect.unit (s := S256) (k1_off10 k) S16.size h) c [] (laneOf x) x fun a => ?_
    match a with
    | 0 =>
      show (x 0).val = k1_off10 k 0 + 1 * ((x 0).val % 16)
      rw [h10]; omega

/-- Sixteen chunks are the buffer. -/
theorem upTo_all {α : Type} {f w : S256.Idx → α} (h : UpTo 16 f w) : f = w := funext fun x => h x (x 0).isLt

/-- A token of the tile's part stands there at its place in the tile, -/
theorem emb_part (L : grid1.Coords) (n : S8192.Idx) (hn : n ∈ prtSet (wid L)) : tileOf n = wid L ∧ (outR L).emb (tokOf n) = n := by
  have h0 := Rect.mem_set_unit.mp (show n ∈ (outR L).set from outR_eq L ▸ hn) 0
  rw [k1_off11_eq] at h0
  have h1 : 512 * (L 1).val + 256 * (L 0).val ≤ (n 0).val ∧ (n 0).val < 512 * (L 1).val + 256 * (L 0).val + 256 := h0
  refine ⟨Fin.ext (show (n 0).val / 256 = 2 * (L 1).val + (L 0).val by omega), (outR L).emb_eq_of_coords _ _ fun a => ?_⟩
  match a with
  | 0 =>
    show (n 0).val = k1_off11 L 0 + 1 * ((n 0).val % 256)
    rw [k1_off11_eq]
    show (n 0).val = (512 * (L 1).val + 256 * (L 0).val) + 1 * ((n 0).val % 256)
    omega
/-- so the scores a tile copies out are read there at that place, -/
theorem put_sc (L : grid1.Coords) (f : S8192.Idx → Elt F .f32) (w : S256.Idx → Elt F .f32) (n : S8192.Idx) (hn : n ∈ prtSet (wid L)) :
    (scK L).view.writes (Elt F) f [⟨Rect.whole S256, w⟩] n = w (tokOf n) := by
  have h := View.read_writes_cons_emb (Val := Elt F) (scK L).view f (Rect.whole S256) w [] (tokOf n)
  rw [Rect.emb_whole_apply, View.read_apply, cast_eq, show (scK L).view.emb (tokOf n) = n from (emb_part L n hn).2] at h
  exact h
/-- and so are the indices. -/
theorem put_ix (L : grid1.Coords) (f : S8192.Idx → Elt F .i32) (w : S256.Idx → Elt F .i32) (n : S8192.Idx) (hn : n ∈ prtSet (wid L)) :
    (ixK L).view.writes (Elt F) f [⟨Rect.whole S256, w⟩] n = w (tokOf n) := by
  have h := View.read_writes_cons_emb (Val := Elt F) (ixK L).view f (Rect.whole S256) w [] (tokOf n)
  rw [Rect.emb_whole_apply, View.read_apply, cast_eq, show (ixK L).view.emb (tokOf n) = n from (emb_part L n hn).2] at h
  exact h

/-- What a tile copies in is its block of the logits. -/
theorem read_in (L : grid1.Coords) (g : S8x32768.Idx → Elt F .f32) :
    ((ltV).slice (inR L) (fun _ => rfl)).view.read (Elt F) g = blockL g (wid L) := by
  funext y
  refine congrArg g (funext fun a => Fin.ext ?_)
  match a with
  | 0 =>
    show k1_off1 L 0 + 1 * (y 0).val = (y 0).val
    rw [k1_off1_eq]
    show 0 + 1 * (y 0).val = (y 0).val
    omega
  | 1 =>
    show k1_off1 L 1 + 1 * (y 1).val = 24576 + 256 * (2 * (L 1).val + (L 0).val) + (y 1).val
    rw [k1_off1_eq]
    show (512 * (L 1).val + 256 * (L 0).val + 24576) + 1 * (y 1).val = _
    omega

/-- The tile's three scratch buffers, whole. -/
abbrev lbPts (d : Dev nD) (L : grid1.Coords) (f : Buf (Elt F) ((lbV).view.loc (V d (cV L) (jV L)))) : sProp 𝕄 := (lbV).view.loc (V d (cV L) (jV L)) ↦{fullShare} f
abbrev sbPts (d : Dev nD) (L : grid1.Coords) (f : Buf (Elt F) ((sbV).view.loc (V d (cV L) (jV L)))) : sProp 𝕄 := (sbV).view.loc (V d (cV L) (jV L)) ↦{fullShare} f
abbrev ibPts (d : Dev nD) (L : grid1.Coords) (f : Buf (Elt F) ((ibV).view.loc (V d (cV L) (jV L)))) : sProp 𝕄 := (ibV).view.loc (V d (cV L) (jV L)) ↦{fullShare} f

/-- Before trip `k`: the block of logits, and the two result buffers right on the chunks done. -/
def inv (d : Dev nD) (L : grid1.Coords) (G : S8x256.Idx → Elt F .f32) (k : Nat) (_ : BitVec 32) : sProp 𝕄 :=
  iprop(lbPts d L G ∗ (∃ f, ⌜UpTo k f (tileS G)⌝ ∗ sbPts d L f) ∗ (∃ f, ⌜UpTo k f (tileI G)⌝ ∗ ibPts d L f))

/-- What a tile is handed: a share of the logits, and its parts of the two result arrays. -/
abbrev tilePts (d : Dev nD) (w : Fin 32) (q : PosShare TreeShare) (g : Buf (Elt F) (ltLoc d)) (f : Buf (Elt F) (scLoc d)) (i : Buf (Elt F) (ixLoc d)) : sProp 𝕄 :=
  iprop((ltLoc d ↦{q} g) ∗ (scLoc d ↦[prtSet w]{fullShare} f) ∗ (ixLoc d ↦[prtSet w]{fullShare} i))

set_option maxHeartbeats 1000000 in
theorem tile_body (d : Dev nD) (L : grid1.Coords) (q : PosShare TreeShare) (g : Buf (Elt F) (ltLoc d)) (f0 : Buf (Elt F) (scLoc d)) (i0 : Buf (Elt F) (ixLoc d))
    (hF : (K (F := F)).Facts) (O : CellTallies nD τ sig (HIx 1)) (W : Waits sig (HIx 1)) (hO : ∀ g, O g none = 0) :
    iprop(levAts (K (F := F)).L (K (F := F)).lev ∗ emp
        ∗ tilePts d (wid L) q g f0 i0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_top1_body L ltV (Memref.isWhole_whole _) scV (Memref.isWhole_whole _) ixV (Memref.isWhole_whole _)
            lbV (Memref.isWhole_whole _) sbV (Memref.isWhole_whole _) ibV (Memref.isWhole_whole _) cc1_scoped0 cc1_scoped1 cc1_scoped2)
          fun _ => iprop(tilePts d (wid L) q g (coreS g) (coreI g)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_top1_body_eq_skeleton]; unfold cc1__sc_top1_body_skel
  rw [(K (F := F)).scopedBufs_V hF d (cV L) (jV L), SparseCore.Cfg.scopedSems0_V (Val := Elt F) d (cV L) (jV L), ownSems0_V, ownBufs_V]
  iintro ⟨#Hlv, -, ⟨Hl, Hs, Hi⟩, ⟨⟨%fl, Hlb⟩, ⟨%fs, Hsb⟩, ⟨%fi, Hib⟩, Hbufs⟩, ⟨Hc0, Hc1, Hc2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (show (ltLoc d ↦{q} g : sProp 𝕄) = (ltV).view.loc (V d (cV L) (jV L)) ↦{q} g from rfl)) $$ Hl
  ihave Hs' := (Entails.of_eq (show (scLoc d ↦[prtSet (wid L)]{fullShare} f0 : sProp 𝕄) = (scK L).view.loc (V d (cV L) (jV L)) ↦[(scK L).view.set]{fullShare} f0 by rw [set_scK])) $$ Hs
  ihave Hi' := (Entails.of_eq (show (ixLoc d ↦[prtSet (wid L)]{fullShare} i0 : sProp 𝕄) = (ixK L).view.loc (V d (cV L) (jV L)) ↦[(ixK L).view.set]{fullShare} i0 by rw [set_ixK])) $$ Hi
  ihave Hlb' := (Entails.of_eq (show ((V d (cV L) (jV L)).loc cc1_scratch0 ↦{fullShare} fl : sProp 𝕄) = (lbV).view.loc (V d (cV L) (jV L)) ↦{fullShare} fl from rfl)) $$ Hlb
  ihave Hsb' := (Entails.of_eq (show ((V d (cV L) (jV L)).loc cc1_scratch1 ↦{fullShare} fs : sProp 𝕄) = (sbV).view.loc (V d (cV L) (jV L)) ↦{fullShare} fs from rfl)) $$ Hsb
  ihave Hib' := (Entails.of_eq (show ((V d (cV L) (jV L)).loc cc1_scratch2 ↦{fullShare} fi : sProp 𝕄) = (ibV).view.loc (V d (cV L) (jV L)) ↦{fullShare} fi from rfl)) $$ Hib
  sl_exec
  sl_for (inv d L (blockL g (wid L))) $$ [Hlb' Hsb' Hib']
  case region =>
    intro k _
    unfold inv
    iintro ⟨Hl, ⟨%fs, %hs, Hs⟩, ⟨%fi, %hi, Hi⟩⟩
    sl_exec
    sl_step
    have e8 : k1_pay8 (tile_body.sl.r d L g k) (tile_body.sl.r_1 d L g k) (tile_body.sl.r_2 d L g k)
            (tile_body.sl.r_3 d L g k) (tile_body.sl.r_4 d L g k) (tile_body.sl.r_5 d L g k) (tile_body.sl.r_6 d L g k)
            (tile_body.sl.r_7 d L g k) (tile_body.sl.r_8 d L g k) = chunkS (blockL g (wid L)) k := by
      unfold chunkS
      congr 1
    have e9 : k1_pay9 (tile_body.sl.r_4 d L g k) (tile_body.sl.r_5 d L g k) (tile_body.sl.r_6 d L g k)
            (tile_body.sl.r_7 d L g k) (tile_body.sl.r_8 d L g k) (tile_body.sl.r_9 d L g k) = chunkI (blockL g (wid L)) k := by
      unfold chunkI
      congr 1
    rw [e8, e9]
    isplitl [Hl]; · iexact Hl
    isplitl [Hs]
    · iexists (sbV).view.writes (Elt F) fs [⟨Rect.unit (s := S256) (k1_off10 k) S16.size (k1_off10_inb k), chunkS (blockL g (wid L)) k⟩]; isplitr
      · ipureintro
        exact upTo_store (sbV).view k _ fs (tileS (blockL g (wid L))) _ hs fun x e => by subst e; rfl
      · iexact Hs
    · iexists (ibV).view.writes (Elt F) fi [⟨Rect.unit (s := S256) (k1_off10 k) S16.size (k1_off10_inb k), chunkI (blockL g (wid L)) k⟩]; isplitr
      · ipureintro
        exact upTo_store (ibV).view k _ fi (tileI (blockL g (wid L))) _ hi fun x e => by subst e; rfl
      · iexact Hi
  · unfold inv
    isplitl [Hlb']
    · iapply (Entails.of_eq (congrArg (lbPts d L) (show View.write (Elt F) (lbV).view fl (tile_body.sl.dma0 d L g) Finset.univ = blockL g (wid L) by
        rw [View.write_whole_univ]
        exact read_in L g)))
      iexact Hlb'
    isplitl [Hsb']
    · iexists fs; isplitr
      · ipureintro; exact fun x hx => absurd hx (Nat.not_lt_zero _)
      · iexact Hsb'
    · iexists fi; isplitr
      · ipureintro; exact fun x hx => absurd hx (Nat.not_lt_zero _)
      · iexact Hib'
  iintro %_ HI
  unfold inv
  icases HI with ⟨Hl, ⟨%fs, %hs, Hs⟩, ⟨%fi, %hi, Hi⟩⟩
  have es : fs = tileS (blockL g (wid L)) := upTo_all hs
  have ei : fi = tileI (blockL g (wid L)) := upTo_all hi
  subst es ei
  sl_exec
  sl_step
  isplitl [Hl' Hs' Hi']
  · isplitl [Hl']; · iexact Hl'
    isplitl [Hs']
    · iapply (Entails.of_eq (show ((scK L).view.loc (V d (cV L) (jV L)) ↦[(scK L).view.set]{fullShare}
          (scK L).view.writes (Elt F) f0 [⟨Rect.whole S256, tile_body.sl.dma0_1 d L g⟩] : sProp 𝕄)
          = scLoc d ↦[prtSet (wid L)]{fullShare} coreS g by
        rw [set_scK]
        refine pointsTo_congr fun n hn => (put_sc L f0 _ n hn).trans ?_
        rw [coreS, (emb_part L n hn).1]; rfl))
      iexact Hs'
    · iapply (Entails.of_eq (show ((ixK L).view.loc (V d (cV L) (jV L)) ↦[(ixK L).view.set]{fullShare}
          (ixK L).view.writes (Elt F) i0 [⟨Rect.whole S256, tile_body.sl.dma0_2 d L g⟩] : sProp 𝕄)
          = ixLoc d ↦[prtSet (wid L)]{fullShare} coreI g by
        rw [set_ixK]
        refine pointsTo_congr fun n hn => (put_ix L i0 _ n hn).trans ?_
        rw [coreI, (emb_part L n hn).1]; rfl))
      iexact Hi'
  isplitl [Hl Hs Hi Hbufs]
  · isplitl [Hl]; · iexists _; iexact Hl
    isplitl [Hs]; · iexists (tileS (blockL g (wid L))); iexact Hs
    isplitl [Hi]; · iexists (tileI (blockL g (wid L))); iexact Hi
    iexact Hbufs
  isplitl [Hc0 Hc1 Hc2 Hsems]
  · isplitl [Hc0]; · iexact Hc0
    isplitl [Hc1]; · iexact Hc1
    isplitl [Hc2]; · iexact Hc2
    iexact Hsems
  iexists (insert (SemLoc.dma cc1_scoped2.sem, (default : HIx 1)) (insert (SemLoc.dma cc1_scoped1.sem, (default : HIx 1))
    (insert (SemLoc.dma cc1_scoped0.sem, (default : HIx 1)) W))); isplitr
  · ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Cert.Proof.Router

end
-- ==== Proof.Body.lean ====
/-
  The TensorCore call's body, run once over whole staging buffers at any contents: the three operand blocks are left as
  they were, and the three result blocks hold the transposed logits, the scores and the indices of the operand blocks.
-/
module

public import proofs.«01_k».proof.Proof.Setup

@[expose] public section

noncomputable section

namespace Cert.Proof.Router

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Memref `M`'s buffer on core `c`: its contents' type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- `M`'s buffer held whole, reading as `X`. -/
abbrev rd (c : Dev nD) {sp : Space} {S : Shape} {e : EltTy} (M : Memref sig .tc sp S e) (X : S.Idx → Elt F e) : sProp 𝕄 :=
  iprop(∃ f, ⌜M.view.read (Elt F) f = X⌝ ∗ pt c M f)

/-- A store of the whole buffer leaves the buffer reading as its payload. -/
theorem read_store {s : Shape} {e : EltTy} {sp : Space} (v : View sig .tc sp s e) (f : v.ty.Contents (Elt F)) (off : Fin s.rank → ℕ) (h : off = fun _ => 0)
    (inb : ∀ a, off a + s.size a ≤ s.size a) (w : s.Idx → Elt F e) :
    v.read (Elt F) (v.writes (Elt F) f [⟨Rect.unit off s.size inb, w⟩]) = w := by
  subst h
  funext y
  exact View.read_writes_cons_hit_of_coords v f (Rect.unit (fun _ => 0) s.size inb) w [] y y fun a => by
    show (y a).val = 0 + 1 * (y a).val; omega
/-- A load of the whole buffer is what it reads as. -/
theorem load_whole {s : Shape} {e : EltTy} {sp : Space} (v : View sig .tc sp s e) (f : v.ty.Contents (Elt F)) (off : Fin s.rank → ℕ) (h : off = fun _ => 0)
    (inb : ∀ a, off a + s.size a ≤ s.size a) : v.readAt (Elt F) (Rect.unit off s.size inb).toLoadRect f = v.read (Elt F) f := by
  subst h
  exact View.ld_unit_zero rfl _ _

theorem zero2 : (![0, 0] : Fin 2 → ℕ) = fun _ => 0 := by funext a; fin_cases a <;> rfl

set_option maxHeartbeats 1000000 in
/-- The body's run. -/
theorem fused_run (c : Dev nD) (i : grid0.Coords) (M1 : Memref sig .tc .vmem S4096x768 .f32) (h1 : M1.IsWhole) (M2 : Memref sig .tc .vmem S768x8 .f32) (h2 : M2.IsWhole)
    (M3 : Memref sig .tc .vmem S1x8 .f32) (h3 : M3.IsWhole) (M4 : Memref sig .tc .vmem S8x4096 .f32) (h4 : M4.IsWhole)
    (M5 : Memref sig .tc .vmem S4096x1 .f32) (h5 : M5.IsWhole) (M6 : Memref sig .tc .vmem S4096x1 .i32) (h6 : M6.IsWhole)
    (X : S4096x768.Idx → Elt F .f32) (W : S768x8.Idx → Elt F .f32) (B : S1x8.Idx → Elt F .f32)
    (f4 : Bf (F := F) c M4) (f5 : Bf (F := F) c M5) (f6 : Bf (F := F) c M6) (E : Set ℕ) (Q : PUnit → sProp 𝕄) :
    iprop(rd c M1 X ∗ rd c M2 W ∗ rd c M3 B ∗ pt c M4 f4 ∗ pt c M5 f5 ∗ pt c M6 f6
        ∗ (iprop(rd c M1 X ∗ rd c M2 W ∗ rd c M3 B ∗ rd c M4 (k0_pay2 X W B) ∗ rd c M5 (k0_pay5 X W B) ∗ rd c M6 (k0_pay4 X W B)) -∗ Q ⟨⟩))
      ⊢ wp frame (wpE (defs₀ (F := F)) 𝒱₀ c none) E (cc0__tc_fused_body i M1 h1 M2 h2 M3 h3 M4 h4 M5 h5 M6 h6) Q := by
  simp only [cc0__tc_fused_body_eq_skeleton]; unfold cc0__tc_fused_body_skel
  iintro ⟨⟨%f1, %e1, H1⟩, ⟨%f2, %e2, H2⟩, ⟨%f3, %e3, H3⟩, H4, H5, H6, Hk⟩
  sl_exec
  sl_step
  iapply Hk
  have l1 := load_whole M1.view f1 ![0, 0] zero2 inb_S4096x768_S4096x768_0_0
  have l2 := load_whole M2.view f2 ![0, 0] zero2 inb_S768x8_S768x8_0_0
  have l3 := load_whole M3.view f3 ![0, 0] zero2 inb_S1x8_S1x8_0_0
  rw [e1] at l1; rw [e2] at l2; rw [e3] at l3
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists _; isplitr; swap; · iexact H4
    ipureintro; rw [l1, l2, l3]; exact read_store M4.view f4 ![0, 0] zero2 _ _
  isplitl [H5]
  · iexists _; isplitr; swap; · iexact H5
    ipureintro; rw [l1, l2, l3]; exact read_store M5.view f5 ![0, 0] zero2 _ _
  iexists _; isplitr; swap; · iexact H6
  ipureintro; rw [l1, l2, l3]; exact read_store M6.view f6 ![0, 0] zero2 _ _

/-- Owning a whole memref at contents `X` is holding its buffer whole, reading as `X`. -/
theorem owns_rd (c : Dev nD) {sp : Space} {S : Shape} {e : EltTy} (M : Memref sig .tc sp S e) (h : M.IsWhole) (X : S.Idx → Elt F e) :
    (owns (c : Thread nD τ) M fullShare X : sProp 𝕄) = rd c M X := by
  unfold owns; rw [Memref.IsWhole.set_eq_univ h]

/-- The body's run over owned memrefs. -/
theorem fused_owns (c : Dev nD) (i : grid0.Coords) (M1 : Memref sig .tc .vmem S4096x768 .f32) (h1 : M1.IsWhole) (M2 : Memref sig .tc .vmem S768x8 .f32) (h2 : M2.IsWhole)
    (M3 : Memref sig .tc .vmem S1x8 .f32) (h3 : M3.IsWhole) (M4 : Memref sig .tc .vmem S8x4096 .f32) (h4 : M4.IsWhole)
    (M5 : Memref sig .tc .vmem S4096x1 .f32) (h5 : M5.IsWhole) (M6 : Memref sig .tc .vmem S4096x1 .i32) (h6 : M6.IsWhole)
    (X : S4096x768.Idx → Elt F .f32) (W : S768x8.Idx → Elt F .f32) (B : S1x8.Idx → Elt F .f32)
    (X4 : S8x4096.Idx → Elt F .f32) (X5 : S4096x1.Idx → Elt F .f32) (X6 : S4096x1.Idx → Elt F .i32) (E : Set ℕ) (Q : PUnit → sProp 𝕄) :
    iprop(owns (c : Thread nD τ) M1 fullShare X ∗ owns (c : Thread nD τ) M2 fullShare W ∗ owns (c : Thread nD τ) M3 fullShare B
        ∗ owns (c : Thread nD τ) M4 fullShare X4 ∗ owns (c : Thread nD τ) M5 fullShare X5 ∗ owns (c : Thread nD τ) M6 fullShare X6
        ∗ (iprop(owns (c : Thread nD τ) M1 fullShare X ∗ owns (c : Thread nD τ) M2 fullShare W ∗ owns (c : Thread nD τ) M3 fullShare B
          ∗ owns (c : Thread nD τ) M4 fullShare (k0_pay2 X W B) ∗ owns (c : Thread nD τ) M5 fullShare (k0_pay5 X W B)
          ∗ owns (c : Thread nD τ) M6 fullShare (k0_pay4 X W B)) -∗ Q ⟨⟩))
      ⊢ wp frame (wpE (defs₀ (F := F)) 𝒱₀ c none) E (cc0__tc_fused_body i M1 h1 M2 h2 M3 h3 M4 h4 M5 h5 M6 h6) Q := by
  simp only [owns_rd c M1 h1, owns_rd c M2 h2, owns_rd c M3 h3, owns_rd c M4 h4, owns_rd c M5 h5, owns_rd c M6 h6]
  iintro ⟨H1, H2, H3, ⟨%f4, -, H4⟩, ⟨%f5, -, H5⟩, ⟨%f6, -, H6⟩, Hk⟩
  iapply (fused_run c i M1 h1 M2 h2 M3 h3 M4 h4 M5 h5 M6 h6 X W B f4 f5 f6 E Q)
  isplitl [H1]; · iexact H1
  isplitl [H2]; · iexact H2
  isplitl [H3]; · iexact H3
  isplitl [H4]; · iexact H4
  isplitl [H5]; · iexact H5
  isplitl [H6]; · iexact H6
  iexact Hk

end Cert.Proof.Router

end
-- ==== Proof.Region.lean ====
/-
  The TensorCore call over the thread's state: entered from the unscoped buffers at a valuation, left with its three
  result arrays filled block by block — at grid point `t` the transposed logits, the scores and the indices of rows
  `4096 t … 4096 t + 4095` of the tokens.
-/
module

public import proofs.«01_k».proof.Proof.Body
public import Idealize.ShloMosaic.Lib.Pipeline.ValueKit

@[expose] public section

set_option maxRecDepth 16384

noncomputable section

namespace Cert.Proof.Router

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The blocks -/

/-- A valuation of the TensorCore's buffers. -/
abbrev Vals (F : FTy → Type) : Type := (c : Dev nD) → (b : Ref sig .tc) → Buf (Elt F) ((c : Thread nD τ).loc b)

variable (V : Vals F)

/-- The operand blocks at point `t`: the tokens' rows, the weights, the bias. -/
abbrev xB (c : Dev nD) (t : Fin cfg0.N) : S4096x768.Idx → Elt F .f32 := ((cfg0.win 0).blk t).view.read (Elt F) (V c main_v0)
abbrev wB (c : Dev nD) (t : Fin cfg0.N) : S768x8.Idx → Elt F .f32 := ((cfg0.win 1).blk t).view.read (Elt F) (V c main_v1)
abbrev bB (c : Dev nD) (t : Fin cfg0.N) : S1x8.Idx → Elt F .f32 := ((cfg0.win 2).blk t).view.read (Elt F) (V c main_v2)

/-- The recorded waits the thread may come with: those at level 0, the level of the loop's own waits. -/
def recd (c : Dev nD) : Set (SemLoc sig × HIx 1) := {p | (K (F := F)).lev ((c : Thread nD τ), p.1) p.2 ≤ 0}

/-- The proof data of the call. -/
def dat (c : Dev nD) : Dat τ (Elt F) (HIx 1) ℕ UU ℕ cfg0 c where
  A w := V c (Pipeline.arrRef spec0 w)
  after w t := match w with
    | ⟨0, _⟩ => xB V c t
    | ⟨1, _⟩ => wB V c t
    | ⟨2, _⟩ => bB V c t
    | ⟨3, _⟩ => k0_pay2 (xB V c t) (wB V c t) (bB V c t)
    | ⟨4, _⟩ => k0_pay5 (xB V c t) (wB V c t) (bB V c t)
    | ⟨5, _⟩ => k0_pay4 (xB V c t) (wB V c t) (bB V c t)
  Φ _ := Pipeline.scopedRest (Ix := HIx 1) (Name := ℕ) (U := UU) (Lvl := ℕ) (Val := Elt F) spec0 c
  q _ := fullShare
  owed _ := (K (F := F)).Otc c 0
  recorded _ := recd (F := F) c

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem before0 (c : Dev nD) (t : Fin cfg0.N) (d) : (dat V c).before 0 t d = xB V c t :=
  (dat V c).before_in_eq_fetched 0 rfl (fun _ => rfl) (fun _ _ _ => rfl) (fun _ => rfl) t d
theorem before1 (c : Dev nD) (t : Fin cfg0.N) (d) : (dat V c).before 1 t d = wB V c t :=
  (dat V c).before_in_eq_fetched 1 rfl (fun _ => rfl) (fun _ _ _ => rfl) (fun _ => rfl) t d
theorem before2 (c : Dev nD) (t : Fin cfg0.N) (d) : (dat V c).before 2 t d = bB V c t :=
  (dat V c).before_in_eq_fetched 2 rfl (fun _ => rfl) (fun _ _ _ => rfl) (fun _ => rfl) t d

theorem body_obligation (c : Dev nD) : BodyObligation (dat V c) (defs₀ (F := F)) 𝒱₀ (none : HIx 1) Set.univ := fun t => by
  rw [bigSep_W0, bigSep_W0]
  rw [show (dat V c).Φ t.castSucc = Pipeline.scopedRest spec0 c from rfl, show (dat V c).Φ t.succ = Pipeline.scopedRest spec0 c from rfl,
    show (dat V c).owesAt none t.succ = (dat V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [before0, before1, before2]
  iapply (fused_owns c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (xB V c t) (wB V c t) (bB V c t) _ _ _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  have e5 : (dat V c).after 5 t = k0_pay4 (xB V c t) (wB V c t) (bB V c t) := by dsimp only [dat]
  rw [e5]
  iexact H5

/-! ## The region over the thread's state -/

/-- The call's result arrays after the region. -/
abbrev out3 (c : Dev nD) : Buf (Elt F) ((c : Thread nD τ).loc main_v3_0) := (dat V c).arrAt 3 cfg0.N
abbrev out4 (c : Dev nD) : Buf (Elt F) ((c : Thread nD τ).loc main_v3_1) := (dat V c).arrAt 4 cfg0.N
abbrev out5 (c : Dev nD) : Buf (Elt F) ((c : Thread nD τ).loc main_v3_2) := (dat V c).arrAt 5 cfg0.N

/-- The thread's tallies and recorded waits before the SparseCore call. -/
abbrev owesTC (c : Dev nD) : sProp 𝕄 :=
  iprop(∃ W, ⌜(K (F := F)).WBelow (T c) W 0⌝ ∗ owes (c : Thread nD τ) ((K (F := F)).Otc c 0) W)

variable (Vp : Vals F)

theorem Otc_none (c : Dev nD) (g : GSem nD τ sig) : (K (F := F)).Otc c 0 g (none : HIx 1) = 0 := by
  by_contra h
  have := (K (F := F)).lev_of_Otc_pos (Nat.pos_of_ne_zero h)
  rw [(K (F := F)).lev_none] at this
  omega

set_option backward.isDefEq.respectTransparency.types false in
/-- The region from valuation `V` to any valuation `Vp` that has the three result arrays as the run leaves them and
    agrees with `V` elsewhere. -/
def reg (R : Dev nD → sProp 𝕄) (h3 : ∀ c, Vp c main_v3_0 = out3 V c) (h4 : ∀ c, Vp c main_v3_1 = out4 V c) (h5 : ∀ c, Vp c main_v3_2 = out5 V c)
    (hne : ∀ c (b : Ref sig .tc), b ≠ main_v3_0 → b ≠ main_v3_1 → b ≠ main_v3_2 → Vp c b = V c b) :
    Pipeline.RegionSeg (pcfgs (F := F)) adm (pdats V adm) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro (Pipeline.pin pcfgs adm) (pdats V adm) none 0 c fun w s t =>
    (K (F := F)).mayWait_none _ (Otc_none c)
  pre c := iprop(unscopedBufs c (V c) ∗ R c ∗ owesTC c)
  post c := iprop(unscopedBufs c (Vp c) ∗ R c ∗ owesTC c)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HR, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    isplitl [Hrest] <;> iassumption
  hin c := by
    rw [show (pdats V adm 0 c).Φ 0 = Pipeline.scopedRest spec0 c from rfl]
    iintro ⟨-, -, Hr⟩; iexact Hr
  hout c := by
    rw [Pipeline.ownSems0_none, show (pdats V adm 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hne c main_v0 (by decide) (by decide) (by decide)).symm
        · exact ((pdats V adm 0 c).arrAt_in 1 rfl _).trans (hne c main_v1 (by decide) (by decide) (by decide)).symm
        · exact ((pdats V adm 0 c).arrAt_in 2 rfl _).trans (hne c main_v2 (by decide) (by decide) (by decide)).symm
        · exact (h3 c).symm
        · exact (h4 c).symm
        · exact (h5 c).symm)
      (fun b hb => hne c b (fun h => hb (h ▸ Finset.mem_image.mpr ⟨3, Finset.mem_univ _, rfl⟩)) (fun h => hb (h ▸ Finset.mem_image.mpr ⟨4, Finset.mem_univ _, rfl⟩))
        fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro; intro p hp
      rcases hW hp with h | ⟨w, s, rfl⟩
      · exact h
      · exact Nat.le_refl 0
    iexact HO

end Cert.Proof.Router

end
-- ==== Proof.Arrays.lean ====
/-
  What the TensorCore call leaves in its three result arrays, as functions of the tokens, the weights and the bias: the
  blocks of 4096 rows put side by side.
-/
module

public import proofs.«01_k».proof.Proof.Region

@[expose] public section

set_option maxRecDepth 16384

noncomputable section

namespace Cert.Proof.Router

open Cert.KernelIdeal Cert.KernelIdeal.Gen

open Idealize.ShloMosaic
open Idealize.ShloMosaic.TcCoe
open Idealize.ShloMosaic.SparseCore.Cfg (HIx Pay)
open Idealize.ShloMosaic.Pipeline (Dat)
open Idealize.SL Idealize.SL.RA Idealize.SL.BI

variable {F : FTy → Type} [FloatOps F]

/-- Rows `4096 t …` of the tokens. -/
def rowsX (X : S32768x768.Idx → Elt F .f32) (t : Fin 8) : S4096x768.Idx → Elt F .f32 := fun y =>
  X fun a => match a with
    | 0 => ⟨4096 * t.val + (y 0).val, by
        have h : (y 0).val < 4096 := (y 0).isLt
        have ht := t.isLt
        show _ < 32768
        omega⟩
    | 1 => y 1

/-- A token's block and its place there. -/
abbrev blkOf (n : Fin 32768) : Fin 8 := ⟨n.val / 4096, by omega⟩
abbrev posOf (n : Fin 32768) : Fin 4096 := ⟨n.val % 4096, Nat.mod_lt _ (by decide)⟩

variable (X : S32768x768.Idx → Elt F .f32) (W : S768x8.Idx → Elt F .f32) (B : S1x8.Idx → Elt F .f32)

/-- The transposed logits, -/
def tcL : S8x32768.Idx → Elt F .f32 := fun i =>
  k0_pay2 (rowsX X (blkOf (i 1))) W B fun a => match a with | 0 => i 0 | 1 => posOf (i 1)
/-- the scores, -/
def tcS : S32768x1.Idx → Elt F .f32 := fun i =>
  k0_pay5 (rowsX X (blkOf (i 0))) W B fun a => match a with | 0 => posOf (i 0) | 1 => i 1
/-- and the indices. -/
def tcI : S32768x1.Idx → Elt F .i32 := fun i =>
  k0_pay4 (rowsX X (blkOf (i 0))) W B fun a => match a with | 0 => posOf (i 0) | 1 => i 1

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, t.val] := by decide +kernel
theorem idx4 : ∀ t : Fin grid0.N, win0_4.index t = ![t.val, 0] := by decide +kernel
theorem idx5 : ∀ t : Fin grid0.N, win0_5.index t = ![t.val, 0] := by decide +kernel

variable (V : Vals F) (c : Dev nD)

theorem xB_eq (t : Fin cfg0.N) : xB V c t = rowsX (V c main_v0) (t.cast N_0) := by
  funext y
  unfold xB rowsX
  blk_simp
  refine congrArg (V c main_v0) (funext fun a => Fin.ext ?_)
  fin_cases a
  · blk_simp [idx0]; show t.val * 4096 + (y 0).val = 4096 * t.val + (y 0).val; rw [Nat.mul_comm]
  · blk_simp [idx0]; rfl
theorem wB_eq (t : Fin cfg0.N) : wB V c t = V c main_v1 := by
  funext y
  unfold wB
  blk_simp
  refine congrArg (V c main_v1) (funext fun a => Fin.ext ?_)
  fin_cases a
  · blk_simp [idx1]
  · blk_simp [idx1]
theorem bB_eq (t : Fin cfg0.N) : bB V c t = V c main_v2 := by
  funext y
  unfold bB
  blk_simp
  refine congrArg (V c main_v2) (funext fun a => Fin.ext ?_)
  fin_cases a
  · blk_simp [idx2]
  · blk_simp [idx2]

theorem out3_eq : out3 V c = tcL (V c main_v0) (V c main_v1) (V c main_v2) := by
  refine (dat V c).arrAt_eq_of_covers 3 _ (by decide +kernel) fun t hf y => ?_
  have hy : (y 1).val < 4096 := (y 1).isLt
  have e0 : (((win0_3.blk t).view.emb y 0 : Fin _) : ℕ) = (y 0).val := by blk_simp [idx3]
  have e1 : (((win0_3.blk t).view.emb y 1 : Fin _) : ℕ) = t.val * 4096 + (y 1).val := by blk_simp [idx3]
  have hb : blkOf ((win0_3.blk t).view.emb y 1) = t.cast N_0 := Fin.ext (by
    show ((win0_3.blk t).view.emb y 1 : Fin _).val / 4096 = t.val
    rw [e1]; omega)
  have e : (dat V c).after 3 t = k0_pay2 (xB V c t) (wB V c t) (bB V c t) := by dsimp only [dat]
  blk_simp
  rw [e, xB_eq, wB_eq, bB_eq]
  unfold tcL
  rw [hb]
  refine congrArg (k0_pay2 _ _ _) (funext fun a => Fin.ext ?_)
  match a with
  | 0 => exact e0.symm
  | 1 => show (y 1).val = _ % 4096; rw [e1]; omega

theorem out4_eq : out4 V c = tcS (V c main_v0) (V c main_v1) (V c main_v2) := by
  refine (dat V c).arrAt_eq_of_covers 4 _ (by decide +kernel) fun t hf y => ?_
  have hy : (y 0).val < 4096 := (y 0).isLt
  have e0 : (((win0_4.blk t).view.emb y 0 : Fin _) : ℕ) = t.val * 4096 + (y 0).val := by blk_simp [idx4]
  have e1 : (((win0_4.blk t).view.emb y 1 : Fin _) : ℕ) = (y 1).val := by blk_simp [idx4]
  have hb : blkOf ((win0_4.blk t).view.emb y 0) = t.cast N_0 := Fin.ext (by
    show ((win0_4.blk t).view.emb y 0 : Fin _).val / 4096 = t.val
    rw [e0]; omega)
  have e : (dat V c).after 4 t = k0_pay5 (xB V c t) (wB V c t) (bB V c t) := by dsimp only [dat]
  blk_simp
  rw [e, xB_eq, wB_eq, bB_eq]
  unfold tcS
  rw [hb]
  refine congrArg (k0_pay5 _ _ _) (funext fun a => Fin.ext ?_)
  match a with
  | 0 => show (y 0).val = _ % 4096; rw [e0]; omega
  | 1 => exact e1.symm

theorem out5_eq : out5 V c = tcI (V c main_v0) (V c main_v1) (V c main_v2) := by
  refine (dat V c).arrAt_eq_of_covers 5 _ (by decide +kernel) fun t hf y => ?_
  have hy : (y 0).val < 4096 := (y 0).isLt
  have e0 : (((win0_5.blk t).view.emb y 0 : Fin _) : ℕ) = t.val * 4096 + (y 0).val := by blk_simp [idx5]
  have e1 : (((win0_5.blk t).view.emb y 1 : Fin _) : ℕ) = (y 1).val := by blk_simp [idx5]
  have hb : blkOf ((win0_5.blk t).view.emb y 0) = t.cast N_0 := Fin.ext (by
    show ((win0_5.blk t).view.emb y 0 : Fin _).val / 4096 = t.val
    rw [e0]; omega)
  have e : (dat V c).after 5 t = k0_pay4 (xB V c t) (wB V c t) (bB V c t) := by dsimp only [dat]
  blk_simp
  rw [e, xB_eq, wB_eq, bB_eq]
  unfold tcI
  rw [hb]
  refine congrArg (k0_pay4 _ _ _) (funext fun a => Fin.ext ?_)
  match a with
  | 0 => show (y 0).val = _ % 4096; rw [e0]; omega
  | 1 => exact e1.symm

end Cert.Proof.Router

end
-- ==== Proof.Call.lean ====
/-
  The SparseCore call as the launch sees it: what the call hands each of its 32 tiles and takes back, the tile's
  obligation from the tile's run, and how the three arrays the call touches divide among the tiles.
-/
module

public import proofs.«01_k».proof.Proof.Tile
public import proofs.«01_k».proof.Proof.Arrays

@[expose] public section

noncomputable section

namespace Cert.Proof.Router

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations before the two kernels -/

/-- The tokens laid out as one list of rows, the weights transposed, the bias as a row. -/
abbrev opX : HloOp τ sig (Elt F) := StableHlo.reshape main_arg0 main_v0 (rfl : (.f32 : EltTy) = .f32) shapeCasts_S4x8192x768_S32768x768
abbrev opW : HloOp τ sig (Elt F) := StableHlo.unary main_arg1 main_v1
  ((transpose S768x8 [1, 0] · transposes_S8x768_S768x8_1_0) : (⟨S8x768, .f32⟩ : BufTy).Contents (Elt F) → (⟨S768x8, .f32⟩ : BufTy).Contents (Elt F))
abbrev opB : HloOp τ sig (Elt F) := StableHlo.reshape main_arg2 main_v2 (rfl : (.f32 : EltTy) = .f32) shapeCasts_S8_S1x8

variable (m : (ℓ : Loc nD τ sig) → Buf (Elt F) ℓ)

/-- The arrays at launch, and after the three host operations. -/
def VA (d : Dev nD) : Valuation τ sig (Elt F) := fun b => m (d, b)
def VB (d : Dev nD) : Valuation τ sig (Elt F) := (opB (F := F)).result ((opW (F := F)).result ((opX (F := F)).result (VA m d)))
/-- The same, by the TensorCore's own names of the arrays. -/
abbrev VBr : Vals F := fun d b => VB m d (Proc.devRef .tc b)

/-- The transposed logits the TensorCore kernel leaves. -/
def Lt (d : Dev nD) : Buf (Elt F) (ltLoc d) := tcL (VBr m d main_v0) (VBr m d main_v1) (VBr m d main_v2)

/-! ## What each tile is handed and gives back -/

/-- The tile of SparseCore `c`, subcore `i`. -/
abbrev tileNo (c : Fin 2) (i : Fin 16) : Fin 32 := ⟨2 * i.val + c.val, by omega⟩

/-- Tile `w`'s share of the logits. -/
abbrev shr (w : Fin 32) : PosShare TreeShare := Transfers.shareTok fullShare 32 w

/-- A tile's pieces before its run, and after. -/
def handed (d : Dev nD) (w : Fin 32) : sProp 𝕄 := tilePts d w (shr w) (Lt m d) (m (scLoc d)) (m (ixLoc d))
def returned (d : Dev nD) (w : Fin 32) : sProp 𝕄 := tilePts d w (shr w) (Lt m d) (coreS (Lt m d)) (coreI (Lt m d))

instance handed_storable (d : Dev nD) (w : Fin 32) : BI.Storable (upEmb : UEmb _ 𝕄) (handed m d w) := by unfold handed; infer_instance
instance returned_storable (d : Dev nD) (w : Fin 32) : BI.Storable (upEmb : UEmb _ 𝕄) (returned m d w) := by unfold returned; infer_instance

/-- The call's protocol: a SparseCore is handed its sixteen tiles' pieces, each tile its own. -/
def P : (K (F := F)).Pay (nD := nD) (Val := Elt F) (Name := ℕ) (U := UU) where
  st := fun q d c => match q with | 0 => bigSep Finset.univ fun i : Fin 16 => handed m d (tileNo c i)
  dn := fun q d c => match q with | 0 => bigSep Finset.univ fun i : Fin 16 => returned m d (tileNo c i)
  go := fun q d c i => match q with | 0 => handed m d (tileNo c i)
  td := fun q d c i => match q with | 0 => returned m d (tileNo c i)
  x := fun _ _ => iprop(emp)

instance P_storable : (P m).IsStorable where
  st q d c := match q with | 0 => (inferInstance : BI.Storable (upEmb : UEmb _ 𝕄) (bigSep Finset.univ fun i : Fin 16 => handed m d (tileNo c i)))
  dn q d c := match q with | 0 => (inferInstance : BI.Storable (upEmb : UEmb _ 𝕄) (bigSep Finset.univ fun i : Fin 16 => returned m d (tileNo c i)))
  go q d c i := match q with | 0 => handed_storable m d (tileNo c i)
  td q d c i := match q with | 0 => returned_storable m d (tileNo c i)

/-! ## A tile's obligation -/

/-- The coordinates of SparseCore `c`'s subcore `s` in the call's grid. -/
def coordsV (c : Fin (grid1.bound 0)) (s : Fin (grid1.bound 1)) : grid1.Coords :=
  fun | 0 => c | 1 => s | ⟨_ + 2, h⟩ => absurd h (Nat.not_lt.2 (Nat.le_add_left _ _))

/-- The tile's label names the SparseCore kernel's body at the tile's coordinates. -/
theorem defs₀_vector (c : Fin τ.nSC) (s : Fin τ.nSub) :
    defs₀ (F := F) (.scVector c s) 1 ()
      = SparseCore.onTile hcore1 hsub1 (fun c s => cc1__sc_top1_body (coordsV c s)
          (Memref.whole main_v3_0_scv) (Memref.isWhole_whole _) (Memref.whole main_v4_0_scv) (Memref.isWhole_whole _)
          (Memref.whole main_v4_1_scv) (Memref.isWhole_whole _) (Memref.whole cc1_scratch0) (Memref.isWhole_whole _)
          (Memref.whole cc1_scratch1) (Memref.isWhole_whole _) (Memref.whole cc1_scratch2) (Memref.isWhole_whole _)
          cc1_scoped0 cc1_scoped1 cc1_scoped2) ⟨⟩ c s := rfl

/-- Waits the tile recorded under no protocol are allowed to it by the call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its body from what it is handed to what it gives back. -/
theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (shr (tileNo c i)) (Lt m d) (m (scLoc d)) (m (ixLoc d)) facts O W hO).trans
    (wp_mono frame _ _ fun _ => obl_post)

/-- A SparseCore hands its tiles exactly what it was handed, and gives back exactly what they give it. -/
theorem vecSplit : (K (F := F)).VecSplit' (P m) 0 := by
  intro d c
  show (bigSep Finset.univ fun i : Fin 16 => handed m d (tileNo c i))
    ⊢ |={Set.univ}=> iprop((bigSep Finset.univ fun i : Fin 16 => handed m d (tileNo c i))
        ∗ ((bigSep Finset.univ fun i : Fin 16 => returned m d (tileNo c i)) -∗ bigSep Finset.univ fun i : Fin 16 => returned m d (tileNo c i)))
  iintro H
  imodintro
  isplitl [H]; · iexact H
  iintro H; iexact H

/-! ## The three arrays among the tiles -/

/-- The tiles by SparseCore and subcore. -/
def tiles : Fin 2 × Fin 16 ≃ Fin 32 where
  toFun x := tileNo x.1 x.2
  invFun w := (⟨w.val % 2, by omega⟩, ⟨w.val / 2, by omega⟩)
  left_inv := by rintro ⟨c, i⟩; ext <;> simp <;> omega
  right_inv w := by ext; simp; omega

/-- One piece per tile, counted by SparseCore and subcore. -/
theorem bigSep_tiles (Φ : Fin 32 → sProp 𝕄) :
    (bigSep Finset.univ fun c : Fin 2 => bigSep Finset.univ fun i : Fin 16 => Φ (tileNo c i)) = bigSep Finset.univ Φ :=
  ((bigSep_univ_equiv tiles Φ).trans (bigSep_univ_prod _)).symm

/-- A result array whole is its 32 parts. -/
theorem sc_parts (d : Dev nD) (f : Buf (Elt F) (scLoc d)) :
    (scLoc d ↦{fullShare} f : sProp 𝕄) = bigSep Finset.univ fun w : Fin 32 => scLoc d ↦[prtSet w]{fullShare} f :=
  (congrArg (fun s : Finset S8192.Idx => (scLoc d ↦[s]{fullShare} f : sProp 𝕄)) (Rect.biUnion_part div32).symm).trans
    (pointsTo_biUnion Finset.univ (ℓ := scLoc d) prtSet fun i _ j _ h => Rect.part_disjoint div32 h)
theorem ix_parts (d : Dev nD) (f : Buf (Elt F) (ixLoc d)) :
    (ixLoc d ↦{fullShare} f : sProp 𝕄) = bigSep Finset.univ fun w : Fin 32 => ixLoc d ↦[prtSet w]{fullShare} f :=
  (congrArg (fun s : Finset S8192.Idx => (ixLoc d ↦[s]{fullShare} f : sProp 𝕄)) (Rect.biUnion_part div32).symm).trans
    (pointsTo_biUnion Finset.univ (ℓ := ixLoc d) prtSet fun i _ j _ h => Rect.part_disjoint div32 h)

/-- What is left of the logits while the tiles read theirs. -/
abbrev ltRest (d : Dev nD) : sProp 𝕄 := iprop(ltLoc d ↦{Transfers.shareDrop fullShare 32} Lt m d)

/-- The three arrays whole, at any contents of the results, are what the tiles hold and the rest of the logits. -/
theorem arrays_split (d : Dev nD) (f : Buf (Elt F) (scLoc d)) (i : Buf (Elt F) (ixLoc d)) :
    iprop((ltLoc d ↦{fullShare} Lt m d) ∗ (scLoc d ↦{fullShare} f) ∗ (ixLoc d ↦{fullShare} i))
      ⊣⊢ iprop(ltRest m d ∗ bigSep Finset.univ fun w : Fin 32 => tilePts d w (shr w) (Lt m d) f i) := by
  rw [bigSep_sep', bigSep_sep', ← sc_parts, ← ix_parts]
  constructor
  · iintro ⟨Hl, Hs, Hi⟩
    ihave H := (Transfers.pointsTo_toks fullShare 32).1 $$ Hl
    icases H with ⟨Hr, Ht⟩
    isplitl [Hr]; · iexact Hr
    isplitl [Ht]; · iexact Ht
    isplitl [Hs] <;> iassumption
  · iintro ⟨Hr, Ht, Hs, Hi⟩
    isplitl [Hr Ht]
    · iapply (Transfers.pointsTo_toks fullShare 32).2
      isplitl [Hr] <;> iassumption
    isplitl [Hs] <;> iassumption

/-- What the call is handed over its SparseCores, and what it gives back. -/
theorem st_eq (d : Dev nD) :
    (bigSep Finset.univ fun c : Fin ((K (F := F)).nCore 0) => (P m).st 0 d c) = bigSep Finset.univ fun w : Fin 32 => handed m d w :=
  bigSep_tiles (handed m d)
theorem dn_eq (d : Dev nD) :
    (bigSep Finset.univ fun c : Fin ((K (F := F)).nCore 0) => (P m).dn 0 d c) = bigSep Finset.univ fun w : Fin 32 => returned m d w :=
  bigSep_tiles (returned m d)

/-- Into the call, and out of it. -/
theorem call_in (d : Dev nD) :
    iprop((ltLoc d ↦{fullShare} Lt m d) ∗ (scLoc d ↦{fullShare} m (scLoc d)) ∗ (ixLoc d ↦{fullShare} m (ixLoc d)))
      ⊢ iprop(ltRest m d ∗ bigSep Finset.univ fun c : Fin ((K (F := F)).nCore 0) => (P m).st 0 d c) := by
  rw [st_eq]; exact (arrays_split m d _ _).1
theorem call_out (d : Dev nD) :
    iprop(ltRest m d ∗ bigSep Finset.univ fun c : Fin ((K (F := F)).nCore 0) => (P m).dn 0 d c)
      ⊢ iprop((ltLoc d ↦{fullShare} Lt m d) ∗ (scLoc d ↦{fullShare} coreS (Lt m d)) ∗ (ixLoc d ↦{fullShare} coreI (Lt m d))) := by
  rw [dn_eq]; exact (arrays_split m d _ _).2

end Cert.Proof.Router

end
-- ==== Proof.Launch.lean ====
/-
  The whole run: the host operations, the TensorCore kernel's pipeline, the SparseCore call, and the host operations
  that put the two parts of the results together; with the final contents of the results and of the arguments.
-/
module

public import proofs.«01_k».proof.Proof.Call

@[expose] public section

set_option maxRecDepth 16384

noncomputable section

namespace Cert.Proof.Router

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays, stage by stage -/

/-- After the TensorCore kernel: its three result arrays written. -/
def VC (d : Dev nD) : Valuation τ sig (Elt F) :=
  Function.update (Function.update (Function.update (VB m d)
    (Proc.devRef .tc main_v3_0) (tcL (VBr m d main_v0) (VBr m d main_v1) (VBr m d main_v2)))
    (Proc.devRef .tc main_v3_1) (tcS (VBr m d main_v0) (VBr m d main_v1) (VBr m d main_v2)))
    (Proc.devRef .tc main_v3_2) (tcI (VBr m d main_v0) (VBr m d main_v1) (VBr m d main_v2))
abbrev VCr : Vals F := fun d b => VC m d (Proc.devRef .tc b)

theorem VC_of_ne (d : Dev nD) (b : Ref sig .tc) (h0 : b ≠ main_v3_0) (h1 : b ≠ main_v3_1) (h2 : b ≠ main_v3_2) :
    VC m d (Proc.devRef .tc b) = VB m d (Proc.devRef .tc b) := by
  unfold VC
  rw [Function.update_of_ne (fun e => h2 (Proc.devRef_injective _ e)), Function.update_of_ne (fun e => h1 (Proc.devRef_injective _ e)),
    Function.update_of_ne (fun e => h0 (Proc.devRef_injective _ e))]
theorem VC_l (d : Dev nD) : VC m d (Proc.devRef .tc main_v3_0) = Lt m d := by
  unfold VC
  rw [Function.update_of_ne (by decide), Function.update_of_ne (by decide), Function.update_self]; rfl
theorem VC_s (d : Dev nD) : VC m d (Proc.devRef .tc main_v3_1) = tcS (VBr m d main_v0) (VBr m d main_v1) (VBr m d main_v2) := by
  unfold VC
  rw [Function.update_of_ne (by decide), Function.update_self]
theorem VC_i (d : Dev nD) : VC m d (Proc.devRef .tc main_v3_2) = tcI (VBr m d main_v0) (VBr m d main_v1) (VBr m d main_v2) := by
  unfold VC
  rw [Function.update_self]

/-- The three host operations leave the rest of the arrays as they were. -/
theorem VB_of_ne (d : Dev nD) (b : Ref sig .tc) (h0 : b ≠ main_v0) (h1 : b ≠ main_v1) (h2 : b ≠ main_v2) :
    VB m d (Proc.devRef .tc b) = m (d, Proc.devRef .tc b) := by
  unfold VB
  rw [StableHlo.reshape_result_ne' _ _ _ _ _ h2, StableHlo.unary_result_ne' _ _ _ _ h1, StableHlo.reshape_result_ne' _ _ _ _ _ h0]
  rfl

/-- After the SparseCore call: its two result arrays written. -/
def VD (d : Dev nD) : Valuation τ sig (Elt F) :=
  Function.update (Function.update (VC m d) (Proc.devRef .tc main_v4_0) (coreS (Lt m d))) (Proc.devRef .tc main_v4_1) (coreI (Lt m d))

/-- The six host operations after the two kernels. -/
abbrev opS1 : HloOp τ sig (Elt F) := StableHlo.unary main_v3_1 main_v5
  ((extractStridedSlice S24576x1 ![0, 0] · slices_S32768x1_S24576x1_0_0) : (⟨S32768x1, .f32⟩ : BufTy).Contents (Elt F) → (⟨S24576x1, .f32⟩ : BufTy).Contents (Elt F))
abbrev opS2 : HloOp τ sig (Elt F) := StableHlo.reshape main_v4_0 main_v6 (rfl : (.f32 : EltTy) = .f32) shapeCasts_S8192_S8192x1
abbrev opS3 : HloOp τ sig (Elt F) := StableHlo.binary main_v5 main_v6 main_v7
  ((fun a b => concatenate S32768x1 0 [⟨S24576x1, a⟩, ⟨S8192x1, b⟩] concatenates_S24576x1_S8192x1_S32768x1_d0) :
    (⟨S24576x1, .f32⟩ : BufTy).Contents (Elt F) → (⟨S8192x1, .f32⟩ : BufTy).Contents (Elt F) → (⟨S32768x1, .f32⟩ : BufTy).Contents (Elt F))
abbrev opI1 : HloOp τ sig (Elt F) := StableHlo.unary main_v3_2 main_v8
  ((extractStridedSlice S24576x1 ![0, 0] · slices_S32768x1_S24576x1_0_0) : (⟨S32768x1, .i32⟩ : BufTy).Contents (Elt F) → (⟨S24576x1, .i32⟩ : BufTy).Contents (Elt F))
abbrev opI2 : HloOp τ sig (Elt F) := StableHlo.reshape main_v4_1 main_v9 (rfl : (.i32 : EltTy) = .i32) shapeCasts_S8192_S8192x1
abbrev opI3 : HloOp τ sig (Elt F) := StableHlo.binary main_v8 main_v9 main_v10
  ((fun a b => concatenate S32768x1 0 [⟨S24576x1, a⟩, ⟨S8192x1, b⟩] concatenates_S24576x1_S8192x1_S32768x1_d0) :
    (⟨S24576x1, .i32⟩ : BufTy).Contents (Elt F) → (⟨S8192x1, .i32⟩ : BufTy).Contents (Elt F) → (⟨S32768x1, .i32⟩ : BufTy).Contents (Elt F))

/-- The arrays at the end. -/
def VE (d : Dev nD) : Valuation τ sig (Elt F) :=
  (opI3 (F := F)).result ((opI2 (F := F)).result ((opI1 (F := F)).result ((opS3 (F := F)).result ((opS2 (F := F)).result ((opS1 (F := F)).result (VD m d))))))

/-! ## The SparseCore call's three arrays among the TensorCore's -/

abbrev l' : DevRef τ sig := Proc.devRef .tc main_v3_0
abbrev s' : DevRef τ sig := Proc.devRef .tc main_v4_0
abbrev i' : DevRef τ sig := Proc.devRef .tc main_v4_1
/-- The arrays the call touches. -/
abbrev S3 : Finset (DevRef τ sig) := {l', s', i'}

theorem S3_sub : S3 ⊆ Pipeline.ucRefs τ sig := by decide

theorem held_S3 (d : Dev nD) (W : Valuation τ sig (Elt F)) :
    (held (T d) S3 W : sProp 𝕄)
      = iprop((ltLoc d ↦{fullShare} W l') ∗ (scLoc d ↦{fullShare} W s') ∗ ixLoc d ↦{fullShare} W i') := by
  unfold held S3
  rw [SparseCore.bigSep_insert' (by decide), SparseCore.bigSep_insert' (by decide), bigSep_singleton]

theorem VC_sc (d : Dev nD) : VC m d s' = m (scLoc d) := by
  rw [VC_of_ne m d main_v4_0 (by decide) (by decide) (by decide), VB_of_ne m d main_v4_0 (by decide) (by decide) (by decide)]
theorem VC_ix (d : Dev nD) : VC m d i' = m (ixLoc d) := by
  rw [VC_of_ne m d main_v4_1 (by decide) (by decide) (by decide), VB_of_ne m d main_v4_1 (by decide) (by decide) (by decide)]
theorem VD_l (d : Dev nD) : VD m d l' = Lt m d := by
  unfold VD; rw [Function.update_of_ne (by decide), Function.update_of_ne (by decide)]; exact VC_l m d
theorem VD_sc (d : Dev nD) : VD m d s' = coreS (Lt m d) := by
  unfold VD; rw [Function.update_of_ne (by decide), Function.update_self]
theorem VD_ix (d : Dev nD) : VD m d i' = coreI (Lt m d) := by
  unfold VD; rw [Function.update_self]
theorem VD_of_ne (d : Dev nD) (b : DevRef τ sig) (h : b ≠ s') (h' : b ≠ i') : VD m d b = VC m d b := by
  unfold VD; rw [Function.update_of_ne h', Function.update_of_ne h]

/-- Before the call the arrays are the call's three and the rest, -/
theorem held_in (d : Dev nD) :
    (held (T d) (Pipeline.ucRefs τ sig) (VC m d) : sProp 𝕄)
      = iprop(((ltLoc d ↦{fullShare} Lt m d) ∗ (scLoc d ↦{fullShare} m (scLoc d)) ∗ ixLoc d ↦{fullShare} m (ixLoc d))
          ∗ held (T d) (Pipeline.ucRefs τ sig \ S3) (VC m d)) := by
  rw [StableHlo.held_sub_split (T d) S3_sub, held_S3, VC_l, VC_sc, VC_ix]
/-- and after it the same, the three at the call's results. -/
theorem held_out (d : Dev nD) :
    (held (T d) (Pipeline.ucRefs τ sig) (VD m d) : sProp 𝕄)
      = iprop(((ltLoc d ↦{fullShare} Lt m d) ∗ (scLoc d ↦{fullShare} coreS (Lt m d)) ∗ ixLoc d ↦{fullShare} coreI (Lt m d))
          ∗ held (T d) (Pipeline.ucRefs τ sig \ S3) (VC m d)) := by
  rw [StableHlo.held_sub_split (T d) S3_sub, held_S3, VD_l, VD_sc, VD_ix]
  rw [StableHlo.held_congr (T d) (V := VD m d) (V' := VC m d) fun b hb => VD_of_ne m d b
    (fun e => (Finset.mem_sdiff.mp hb).2 (by rw [e]; decide)) (fun e => (Finset.mem_sdiff.mp hb).2 (by rw [e]; decide))]

/-! ## The launch's ghost state -/

/-- The pipeline's table has no prefetched words. -/
abbrev adm : (p : Fin 1) → (pcfgs (F := F) p).Adm := fun p => (cfgs p).toPCfg_adm

theorem cell_inj : Function.Injective (Pipeline.cellOf (nD := nD) (τ := τ) (Pipeline.pin (pcfgs (F := F)) adm)) := cellOf_inj

/-- The launch element: the handshakes' cells, the pipeline's, and no counter. -/
def u₀ : UU := (initOf (K (F := F)).hsCells (K (F := F)).hsToks,
  (initOf (Pipeline.cells (Pipeline.pin (pcfgs (F := F)) adm) cell_inj) (Pipeline.launchToks (Pipeline.pin (pcfgs (F := F)) adm) cell_inj), 1))

/-- What the pipeline's protocol gives device `d`'s TensorCore at launch. -/
def G (d : Dev nD) : sProp 𝕄 :=
  iprop(Pipeline.cellsGhost (Pipeline.pin (pcfgs (F := F)) adm) EP 0 d ∗ Pipeline.toksInit (Pipeline.pin (pcfgs (F := F)) adm) EP 0 d)

theorem G_eq (d : Dev nD) : (G d : sProp 𝕄)
    = iprop(Pipeline.cellsGhost (Pipeline.pin (pcfgs (F := F)) adm) EP 0 d ∗ Pipeline.toksInit (Pipeline.pin (pcfgs (F := F)) adm) EP 0 d) := rfl

theorem bigSep_emps {I : Type} (s : Finset I) : (bigSep s fun _ => iprop(emp)) = (iprop(emp) : sProp 𝕄) := bigSep_emp_const s

/-- The kernel has no ghost state of its own. -/
theorem x_emp : (bigSep Finset.univ fun thr : Thread nD τ => bigSep Finset.univ fun q : Fin 1 => (P m).x q thr) = (iprop(emp) : sProp 𝕄) := by
  rw [← bigSep_emps (F := F) (Finset.univ : Finset (Thread nD τ))]
  exact bigSep_congr fun thr _ => bigSep_emps _

/-- The launch element gives the handshakes their cells and the pipeline its own. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  rw [x_emp]
  unfold u₀
  iintro Hu
  ihave H := (ownU_pair _ _) $$ Hu
  icases H with ⟨HH, HR⟩
  ihave H := (own_pair_emb (embR : Emb (UP × Counters) 𝕄) _ _) $$ HR
  icases H with ⟨HP0, -⟩
  ihave HP := (Entails.of_eq (show (BI.own (((Emb.inl : Emb UP (UP × Counters)).trans (embR : Emb (UP × Counters) 𝕄)) (initOf (Pipeline.cells (Pipeline.pin (pcfgs (F := F)) adm) cell_inj) (Pipeline.launchToks (Pipeline.pin (pcfgs (F := F)) adm) cell_inj))) : sProp 𝕄)
      = BI.own (EP (initOf (Pipeline.cells (Pipeline.pin (pcfgs (F := F)) adm) cell_inj) (Pipeline.launchToks (Pipeline.pin (pcfgs (F := F)) adm) cell_inj))) from rfl)) $$ HP0
  imod (Pipeline.fund_ghost (Pipeline.pin (pcfgs (F := F)) adm) EP cell_inj) $$ HP with ⟨Hg, Ht⟩
  imodintro
  isplitl [HH]; · iexact HH
  isplitl [Hg Ht]
  · rw [show (bigSep Finset.univ fun d : Dev nD => G (F := F) d) = G (F := F) 0 from bigSep_univ_of_subsingleton (0 : Fin 1),
      show (bigSep Finset.univ fun c : Dev nD => bigSep Finset.univ fun p => Pipeline.cellsGhost (Pipeline.pin (pcfgs (F := F)) adm) EP p c)
          = Pipeline.cellsGhost (Pipeline.pin (pcfgs (F := F)) adm) EP 0 0 from
        (bigSep_univ_of_subsingleton (0 : Fin 1)).trans (bigSep_univ_of_subsingleton (0 : Fin 1)),
      show (bigSep Finset.univ fun c : Dev nD => bigSep Finset.univ fun p => Pipeline.toksInit (Pipeline.pin (pcfgs (F := F)) adm) EP p c)
          = Pipeline.toksInit (Pipeline.pin (pcfgs (F := F)) adm) EP 0 0 from
        (bigSep_univ_of_subsingleton (0 : Fin 1)).trans (bigSep_univ_of_subsingleton (0 : Fin 1))]
    unfold G
    exact BI.Entails.refl _
  iempintro

/-! ## @main on the TensorCore -/

/-- The rest of the TensorCore's handshake state, beside what it owes. -/
theorem tcSt_split (d : Dev nD) : ∃ R : sProp 𝕄, (K (F := F)).tcSt EH d 0 = iprop(owesTC d ∗ R) := ⟨_, rfl⟩
def tcRest (d : Dev nD) : sProp 𝕄 := (tcSt_split (F := F) d).choose
theorem tcSt_eq (d : Dev nD) : (K (F := F)).tcSt EH d 0 = iprop(owesTC d ∗ tcRest (F := F) d) := (tcSt_split (F := F) d).choose_spec

/-- The arrays the claims read: the arguments and the two results. -/
abbrev S5 : Finset (DevRef τ sig) :=
  {Proc.devRef .tc main_arg0, Proc.devRef .tc main_arg1, Proc.devRef .tc main_arg2, Proc.devRef .tc main_v7, Proc.devRef .tc main_v10}
theorem S5_sub : S5 ⊆ Pipeline.ucRefs τ sig := by decide

/-- What the run leaves the claims. -/
abbrev FIN (d : Dev nD) : sProp 𝕄 := held (T d) S5 (VE m d)

/-- The TensorCore kernel's region, from the arrays after the host operations to the arrays with its results. -/
abbrev region : Pipeline.RegionSeg (pcfgs (F := F)) adm (pdats (VBr m) adm) (none : HIx 1) defs₀ 𝒱₀ (K (F := F)).L (K (F := F)).lev 0 :=
  reg (VBr m) adm (VCr m) tcRest (fun d => (VC_l m d).trans (out3_eq (VBr m) d).symm) (fun d => (VC_s m d).trans (out4_eq (VBr m) d).symm)
    (fun d => (VC_i m d).trans (out5_eq (VBr m) d).symm) (fun d b => VC_of_ne m d b)

theorem region_pre (d : Dev nD) :
    (region m).pre d = iprop(held (T d) (Pipeline.ucRefs τ sig) (VB m d) ∗ tcRest (F := F) d ∗ owesTC d) := by
  rw [← Pipeline.unscopedBufs_held]; rfl
theorem region_post (d : Dev nD) :
    (region m).post d = iprop(held (T d) (Pipeline.ucRefs τ sig) (VC m d) ∗ tcRest (F := F) d ∗ owesTC d) := by
  rw [← Pipeline.unscopedBufs_held]; rfl

/-- The TensorCore kernel's call, in the program without the SparseCore's own labels, -/
def callP : Prog (TpuEff nD τ sig (Elt F) (ΛP (F := F)) .tc) PUnit := .op (.customCall (Pipeline.entry 0) ()) fun x => .ret x
/-- is the printed one lifted. -/
theorem callP_lift : (Prog.lift (.customCall (SparseCore.inner (Pipeline.entry 0)) ()) : Prog (TpuEff nD τ sig (Elt F) (SparseCore.Sig (ΛP (F := F)) 1) .tc) PUnit)
    = SparseCore.liftProg (Q := 1) (callP (F := F)) := by
  unfold callP; rw [SparseCore.liftProg_op]; rfl

/-- The pieces of the region's entry and exit, reordered. -/
theorem region_shuffle (B H H' O R L G₁ G₂ X Y : sProp 𝕄) (h : X ⊢ Y) :
    iprop((iprop(B ∗ H' ∗ O ∗ R) -∗ X) ∗ B ∗ H ∗ iprop(O ∗ R) ∗ L ∗ G₁ ∗ G₂)
      ⊢ iprop((iprop(B ∗ H' ∗ R ∗ O) -∗ Y) ∗ B ∗ iprop(H ∗ R ∗ O) ∗ L ∗ G₁ ∗ G₂) := by
  iintro ⟨Hk, Hb, Hh, ⟨HO, HR⟩, Hl, Hg, Ht⟩
  isplitl [Hk]
  · iintro ⟨Hb, Hh, HR, HO⟩
    iapply h
    iapply Hk
    isplitl [Hb]; · iexact Hb
    isplitl [Hh]; · iexact Hh
    isplitl [HO] <;> iassumption
  isplitl [Hb]; · iexact Hb
  isplitl [Hh HR HO]
  · isplitl [Hh]; · iexact Hh
    isplitl [HR] <;> iassumption
  isplitl [Hl]; · iexact Hl
  isplitl [Hg] <;> iassumption

/-- The TensorCore kernel's call in @main. -/
theorem wp_region [∀ e, Nonempty (Elt F e)] (d : Dev nD) (Φ : PUnit → sProp 𝕄) :
    iprop((iprop(boundary (T d) ∗ held (T d) (Pipeline.ucRefs τ sig) (VC m d) ∗ (K (F := F)).tcSt EH d 0) -∗ Φ ⟨⟩)
        ∗ boundary (T d) ∗ held (T d) (Pipeline.ucRefs τ sig) (VB m d) ∗ (K (F := F)).tcSt EH d 0
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Φ := by
  rw [callP_lift]
  refine BI.Entails.trans ?_ ((K (F := F)).wp_liftProg (D (F := F)) 𝒱 (SparseCore.T d) Set.univ none callP Φ)
  unfold callP
  refine BI.Entails.trans ?_ (Pipeline.RegionSeg.wp (pcfgs (F := F)) adm (pdats (VBr m) adm) (none : HIx 1) cell_inj EP defs₀ 𝒱₀
    (K (F := F)).L (K (F := F)).lev (region m) d none (fun u hu => by cases hu) .ret Φ)
  rw [region_pre, region_post, tcSt_eq, G_eq]
  exact region_shuffle _ _ _ _ _ _ _ _ _ _ (by rw [wp_ret]; exact fupd_intro)

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (VA m d) from
    Pipeline.unscopedBufs_held d (VA m d)]
  simp only [main, wp_bind, wp_pure]
  iintro ⟨#Hctx, Hst, ⟨Hb, Hheld, Hts, -⟩, HG⟩
  -- the three host operations
  iapply (wp_hlo_within 𝒱 (SparseCore.T d) none Set.univ (op := opX) (S := Pipeline.ucRefs τ sig) (Pipeline.sub_ucRefs _ (by simp)) (V := VA m d)) $$ [Hb Hheld]
  · isplitl [Hb] <;> iassumption
  iintro ⟨Hb, Hheld⟩
  rw [wp_ret]; imodintro
  iapply (wp_hlo_within 𝒱 (SparseCore.T d) none Set.univ (op := opW) (S := Pipeline.ucRefs τ sig) (Pipeline.sub_ucRefs _ (by simp))) $$ [Hb Hheld]
  · isplitl [Hb] <;> iassumption
  iintro ⟨Hb, Hheld⟩
  rw [wp_ret]; imodintro
  iapply (wp_hlo_within 𝒱 (SparseCore.T d) none Set.univ (op := opB) (S := Pipeline.ucRefs τ sig) (Pipeline.sub_ucRefs _ (by simp))) $$ [Hb Hheld]
  · isplitl [Hb] <;> iassumption
  iintro ⟨Hb, Hheld⟩
  rw [wp_ret]; imodintro
  -- the TensorCore kernel
  ihave #Hlv := ((K (F := F)).ctx_levAts (P := P m) (EH := EH) κ) $$ Hctx
  iapply (wp_region m d) $$ [Hst Hb Hheld Hts HG]
  isplitl [Hts]
  · iintro ⟨Hb, Hheld, Hst⟩
    -- the SparseCore call
    ihave Hh := (Entails.of_eq (held_in m d)) $$ Hheld
    icases Hh with ⟨H3, Hrest⟩
    ihave Hh := (call_in m d) $$ H3
    icases Hh with ⟨Hlt, Hin⟩
    iapply ((K (F := F)).wp_run (D (F := F)) 𝒱 (EH := EH) (P := P m) κ d 0) $$ [Hst Hin Hlt Hrest Hb Hts]
    isplitr; · iexact Hctx
    isplitl [Hst]; · iexact Hst
    isplitl [Hin]; · iexact Hin
    iintro ⟨Hst, Hdn⟩
    ihave H3 := (call_out m d) $$ [Hlt Hdn]
    · isplitl [Hlt] <;> iassumption
    ihave Hheld := (Entails.of_eq (held_out m d).symm) $$ [H3 Hrest]
    · isplitl [H3] <;> iassumption
    -- the six host operations
    iapply (wp_hlo_within 𝒱 (SparseCore.T d) none Set.univ (op := opS1) (S := Pipeline.ucRefs τ sig) (Pipeline.sub_ucRefs _ (by simp)) (V := VD m d)) $$ [Hb Hheld]
    · isplitl [Hb] <;> iassumption
    iintro ⟨Hb, Hheld⟩
    rw [wp_ret]; imodintro
    iapply (wp_hlo_within 𝒱 (SparseCore.T d) none Set.univ (op := opS2) (S := Pipeline.ucRefs τ sig) (Pipeline.sub_ucRefs _ (by simp))) $$ [Hb Hheld]
    · isplitl [Hb] <;> iassumption
    iintro ⟨Hb, Hheld⟩
    rw [wp_ret]; imodintro
    iapply (wp_hlo_within 𝒱 (SparseCore.T d) none Set.univ (op := opS3) (S := Pipeline.ucRefs τ sig) (Pipeline.sub_ucRefs _ (by simp))) $$ [Hb Hheld]
    · isplitl [Hb] <;> iassumption
    iintro ⟨Hb, Hheld⟩
    rw [wp_ret]; imodintro
    iapply (wp_hlo_within 𝒱 (SparseCore.T d) none Set.univ (op := opI1) (S := Pipeline.ucRefs τ sig) (Pipeline.sub_ucRefs _ (by simp))) $$ [Hb Hheld]
    · isplitl [Hb] <;> iassumption
    iintro ⟨Hb, Hheld⟩
    rw [wp_ret]; imodintro
    iapply (wp_hlo_within 𝒱 (SparseCore.T d) none Set.univ (op := opI2) (S := Pipeline.ucRefs τ sig) (Pipeline.sub_ucRefs _ (by simp))) $$ [Hb Hheld]
    · isplitl [Hb] <;> iassumption
    iintro ⟨Hb, Hheld⟩
    rw [wp_ret]; imodintro
    iapply (wp_hlo_within 𝒱 (SparseCore.T d) none Set.univ (op := opI3) (S := Pipeline.ucRefs τ sig) (Pipeline.sub_ucRefs _ (by simp))) $$ [Hb Hheld]
    · isplitl [Hb] <;> iassumption
    iintro ⟨Hb, Hheld⟩
    rw [wp_ret]; imodintro; imodintro
    ihave Hh := (show held (T d) (Pipeline.ucRefs τ sig) ((opI3 (F := F)).result ((opI2 (F := F)).result ((opI1 (F := F)).result
          ((opS3 (F := F)).result ((opS2 (F := F)).result ((opS1 (F := F)).result (VD m d)))))))
        ⊢ (iprop(held (T d) S5 (VE m d) ∗ held (T d) (Pipeline.ucRefs τ sig \ S5) (VE m d)) : sProp 𝕄) from
      Entails.of_eq (StableHlo.held_sub_split (T d) S5_sub (VE m d))) $$ Hheld
    icases Hh with ⟨H5, -⟩
    isplitl [Hst]; · iexact Hst
    isplitl [H5]; · iexact H5
    isplitl [Hb] <;> iassumption
  isplitl [Hb]; · iexact Hb
  isplitl [Hheld]; · iexact Hheld
  isplitl [Hst]; · iexact Hst
  isplitr; · iexact Hlv
  iexact HG

/-! ## The final state -/

/-- Device `d`'s final memory holds, at every array the claims read, the last stage's contents. -/
def fq (d : Dev nD) (s' : Phys nD τ sig (Elt F)) : Prop := ∀ b ∈ S5, s'.mem.mem (d, b) = VE m d b

theorem held_agree (d : Dev nD) (s' : Phys nD τ sig (Elt F)) (b : DevRef τ sig) (hb : b ∈ S5) :
    iprop(FIN m d ∗ SI s') ⊢ (⌜s'.mem.mem (d, b) = VE m d b⌝ : sProp 𝕄) := by
  iintro ⟨H, HSI⟩
  ihave Hb := (show FIN m d ⊢ ((((d, b) : Loc nD τ sig)) ↦{fullShare} VE m d b : sProp 𝕄) from
    bigSep_elim (Φ := fun b => ((((d, b) : Loc nD τ sig)) ↦{fullShare} VE m d b : sProp 𝕄)) hb) $$ H
  ihave H := (SI_pointsTo_agree (st := s') (ℓ := ((d, b) : Loc nD τ sig)) (I := Finset.univ) (q := fullShare) (f := VE m d b)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  have key : ∀ S : List (DevRef τ sig), (∀ b ∈ S, b ∈ S5) →
      iprop(FIN m d ∗ SI s') ⊢ (⌜∀ b ∈ S, s'.mem.mem (d, b) = VE m d b⌝ : sProp 𝕄) := by
    intro S
    induction S with
    | nil => intro _; iintro -; ipureintro; simp
    | cons b S ih =>
      intro h
      iintro H
      ihave H := (persistent_entails_right (held_agree m d s' b (h b (by simp)))) $$ H
      icases H with ⟨%hb, H⟩
      ihave H := (ih fun c hc => h c (by simp [hc])) $$ H
      icases H with %hS
      ipureintro
      intro c hc
      rcases List.mem_cons.mp hc with rfl | hc
      · exact hb
      · exact hS c hc
  refine (key S5.toList fun b hb => Finset.mem_toList.mp hb).trans ?_
  iintro %h
  ipureintro; exact fun b hb => h b (Finset.mem_toList.mpr hb)

/-- What every final state satisfies. -/
def QC : PUnit × MemSt nD τ sig (Elt F) → Prop := fun r => (∀ d : Dev nD, ∀ b ∈ S5, r.2.mem (d, b) = VE m d b) ∧ r.2.sem = fun _ => 0

/-- The program runs, and ends with the last stage's contents and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Router

end
-- ==== Proof.Frames.lean ====
/-
  The frames: the kernel's program runs from every memory, at the machine's float values and at exact ones, and so does
  the reference; each leaves its arguments as they were and every semaphore at zero.
-/
module

public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof.Router

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The operations write none of the arguments. -/
theorem VE_of_ne (d : Dev nD) (b : Ref sig .tc) (hb : b ≠ main_v5 ∧ b ≠ main_v6 ∧ b ≠ main_v7 ∧ b ≠ main_v8 ∧ b ≠ main_v9 ∧ b ≠ main_v10) :
    VE m d (Proc.devRef .tc b) = VD m d (Proc.devRef .tc b) := by
  obtain ⟨h5, h6, h7, h8, h9, h10⟩ := hb
  unfold VE
  rw [StableHlo.binary_result_ne' _ _ _ _ _ h10, StableHlo.reshape_result_ne' _ _ _ _ _ h9, StableHlo.unary_result_ne' _ _ _ _ h8,
    StableHlo.binary_result_ne' _ _ _ _ _ h7, StableHlo.reshape_result_ne' _ _ _ _ _ h6, StableHlo.unary_result_ne' _ _ _ _ h5]

theorem VE_arg (d : Dev nD) (b : Ref sig .tc) (h : b = main_arg0 ∨ b = main_arg1 ∨ b = main_arg2) :
    VE m d (Proc.devRef .tc b) = m (d, Proc.devRef .tc b) := by
  rcases h with rfl | rfl | rfl <;>
    exact (VE_of_ne m d _ (by decide)).trans <| (VD_of_ne m d _ (by decide) (by decide)).trans <|
      (VC_of_ne m d _ (by decide) (by decide) (by decide)).trans (VB_of_ne m d _ (by decide) (by decide) (by decide))

/-- The program's run, read at its arguments and its two results. -/
theorem run_args [∀ e, Nonempty (Elt F e)] :
    θ_run (Cert.KernelIdeal.defs (F := F)) (Cert.KernelIdeal.threads (F := F)) ⟨m, fun _ => 0, ρ⟩ fun r =>
      (∀ c : Dev nD, (r.2.mem ((c.tc : Thread nD τ).loc main_v7) = VE m c (Proc.devRef .tc main_v7)
        ∧ r.2.mem ((c.tc : Thread nD τ).loc main_v10) = VE m c (Proc.devRef .tc main_v10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run _ _ _).mono (fun _ h => ⟨fun c =>
    ⟨⟨h.1 c (Proc.devRef .tc main_v7) (by decide), h.1 c (Proc.devRef .tc main_v10) (by decide)⟩,
      (h.1 c (Proc.devRef .tc main_arg0) (by decide)).trans (VE_arg m c main_arg0 (by decide)),
      (h.1 c (Proc.devRef .tc main_arg1) (by decide)).trans (VE_arg m c main_arg1 (by decide)),
      (h.1 c (Proc.devRef .tc main_arg2) (by decide)).trans (VE_arg m c main_arg2 (by decide))⟩, h.2⟩) (run_main m ρ)

/-- The run, read at its arguments and the semaphores only. -/
theorem run_frame [∀ e, Nonempty (Elt F e)] :
    θ_run (Cert.KernelIdeal.defs (F := F)) (Cert.KernelIdeal.threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run _ _ _).mono (fun _ h => ⟨fun c => (h.1 c).2, h.2⟩) (run_args m ρ)

/-- The kernel at exact floats. -/
theorem frame_ideal : Cert.quiescent_KernelIdeal := fun m ρ _ => run_frame (F := Ideal) m ρ

/-- The two prints of the kernel name the same bodies: label by label, on each kind of processor. -/
theorem bodies_eq : Cert.Kernel.defs₀ (F := Bits) = Cert.KernelIdeal.defs₀ (F := Bits) := by
  funext p l a
  match p, l, a with
  | .tc, 0, (t, s) => rfl
  | .tc, 1, x => rfl
  | .scVector c s, 0, (t, x) => rfl
  | .scVector c s, 1, x => rfl
  | .scScalar c, 0, (t, x) => rfl
  | .scScalar c, 1, x => rfl

/-- So the two programs are one. -/
theorem defs_eq : Cert.Kernel.defs (F := Bits) = Cert.KernelIdeal.defs (F := Bits) :=
  congrArg (fun D => Cert.KernelIdeal.sc.defs (Pipeline.defs Cert.KernelIdeal.pcfgs D)) bodies_eq

/-- The kernel at the machine's floats. -/
theorem frame_bits : Cert.quiescent_Kernel := fun m ρ _ => by
  rw [defs_eq]
  exact run_frame (F := Bits) m ρ

/-- The reference at exact floats. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof.Router

end
-- ==== Proof.Top.lean ====
/-
  The greatest of eight extended reals and its first place: by a running strict comparison, by the least index among the
  equals of the maximum, and as the head of a stable sort. Then the top of a softmax of eight reals.
-/
module

public import Idealize.ShloMosaic.PureOps.Ideal
public import Idealize.ShloMosaic.PureOps.Ideal.Laws
public import Idealize.ShloMosaic.PureOps.Reduce
public import Idealize.ShloMosaic.Lib.SortFacts
public import Idealize.ShloMosaic.Lib.ValueIdx

@[expose] public section

noncomputable section

namespace Cert.Proof.Router

open Idealize.ShloMosaic

/-- Place `i` is the first place of the greatest of `l`. -/
def IsTop {n : ℕ} (l : Fin n → EReal) (i : Fin n) : Prop := (∀ e, l e ≤ l i) ∧ ∀ e, e < i → l e < l i

/-- There is one, -/
theorem exists_top (l : Fin 8 → EReal) : ∃ i, IsTop l i := by
  obtain ⟨a, -, ha⟩ := Finset.exists_max_image Finset.univ l ⟨0, Finset.mem_univ _⟩
  let s : Finset (Fin 8) := Finset.univ.filter fun e => l e = l a
  have hs : s.Nonempty := ⟨a, Finset.mem_filter.2 ⟨Finset.mem_univ _, rfl⟩⟩
  have hm := (Finset.mem_filter.1 (s.min'_mem hs)).2
  refine ⟨s.min' hs, fun e => hm ▸ ha e (Finset.mem_univ _), fun e he => ?_⟩
  rw [hm]
  refine lt_of_le_of_ne (ha e (Finset.mem_univ _)) fun h => ?_
  exact absurd (s.min'_le e (Finset.mem_filter.2 ⟨Finset.mem_univ _, h⟩)) (not_le.2 he)

/-- … and the fold of `max` from below reads it. -/
theorem fold_max_top {l : Fin 8 → EReal} {i : Fin 8} (h : IsTop l i) :
    (Finset.univ : Finset (Fin 8)).fold max ⊥ l = l i := by
  refine le_antisymm (Finset.fold_max_le (l i) |>.2 ⟨bot_le, fun e _ => h.1 e⟩) ?_
  exact (Finset.le_fold_max (l i)).2 (.inr ⟨i, Finset.mem_univ _, le_rfl⟩)

/-! ## The least index among the equals of the maximum -/

/-- The signed minimum of two words has the lesser value. -/
theorem toInt_minsi (a b : BitVec 32) : (IntOp.minsi a b).toInt = min a.toInt b.toInt := by
  unfold IntOp.minsi
  simp only [BitVec.slt, decide_eq_true_eq]
  split_ifs <;> omega

/-- A word that no word of the fold is below, and that is among them, is the fold. -/
theorem fold_minsi_eq {n : ℕ} (init : BitVec 32) (f : Fin n → BitVec 32) (i : Fin n) (h0 : (f i).toInt ≤ init.toInt)
    (h : ∀ e, (f i).toInt ≤ (f e).toInt) : (Finset.univ : Finset (Fin n)).fold IntOp.minsi init f = f i := by
  apply BitVec.eq_of_toInt_eq
  rw [← Finset.fold_hom (op := IntOp.minsi) (op' := min) (m := BitVec.toInt) toInt_minsi]
  refine le_antisymm ((Finset.fold_min_le _).2 (.inr ⟨i, Finset.mem_univ _, le_rfl⟩)) ?_
  exact (Finset.le_fold_min _).2 ⟨h0, fun e _ => h e⟩

/-- An index word of eight. -/
theorem toInt_ofNat8 (e : ℕ) (h : e ≤ 8) : (BitVec.ofNat 32 e).toInt = e := by
  interval_cases e <;> decide

/-- The least index whose entry equals the maximum, all others counted as eight, is the first place of the maximum. -/
theorem fold_index_top {l : Fin 8 → EReal} {i : Fin 8} (h : IsTop l i) :
    (Finset.univ : Finset (Fin 8)).fold IntOp.minsi 2147483647#32
        (fun e => Scalar.select (Ideal.cmp .oeq (l e) (l i)) (BitVec.ofNat 32 e.val) 8#32) = BitVec.ofNat 32 i.val := by
  have hi : Scalar.select (Ideal.cmp .oeq (l i) (l i)) (BitVec.ofNat 32 i.val) 8#32 = BitVec.ofNat 32 i.val := by
    simp [Ideal.cmp, Scalar.select]
  refine (fold_minsi_eq _ _ i ?_ fun e => ?_).trans hi
  · rw [hi, toInt_ofNat8 _ (by omega)]
    have := i.isLt
    exact le_trans (show (i.val : ℤ) ≤ 8 by omega) (by decide)
  · rw [hi, toInt_ofNat8 _ (by omega)]
    by_cases he : l e = l i
    · have hle : i.val ≤ e.val := by
        by_contra hlt
        exact absurd he (ne_of_lt (h.2 e (Fin.lt_def.2 (by omega))))
      have hs : Scalar.select (Ideal.cmp .oeq (l e) (l i)) (BitVec.ofNat 32 e.val) 8#32 = BitVec.ofNat 32 e.val := by
        simp [Ideal.cmp, Scalar.select, he]
      rw [hs, toInt_ofNat8 _ (by omega)]
      exact_mod_cast hle
    · have hs : Scalar.select (Ideal.cmp .oeq (l e) (l i)) (BitVec.ofNat 32 e.val) 8#32 = 8#32 := by
        simp [Ideal.cmp, Scalar.select, he]
      rw [hs]
      have := i.isLt
      exact le_trans (show (i.val : ℤ) ≤ 8 by omega) (by decide)

/-! ## The running strict comparison -/

/-- `(m, w)` is the greatest of the entries up to `k` and the word of its first place. -/
def RunTop (l : Fin 8 → EReal) (k : ℕ) (m : EReal) (w : BitVec 32) : Prop :=
  ∃ i : Fin 8, i.val ≤ k ∧ m = l i ∧ w = BitVec.ofNat 32 i.val ∧ (∀ e, e.val ≤ k → l e ≤ l i) ∧ ∀ e, e < i → l e < l i

theorem runTop_zero (l : Fin 8 → EReal) : RunTop l 0 (l 0) 0#32 :=
  ⟨0, le_rfl, rfl, rfl, fun e he => by rw [show e = 0 from Fin.ext (Nat.le_zero.1 he)], fun e he => absurd he (Fin.not_lt_zero e)⟩

/-- One step: the next entry takes over where it is greater. -/
theorem RunTop.step {l : Fin 8 → EReal} {k : ℕ} {m : EReal} {w : BitVec 32} (h : RunTop l k m w) (e : Fin 8) (he : e.val = k + 1) :
    RunTop l (k + 1) (Scalar.select (Ideal.cmp .ogt (l e) m) (l e) m)
      (Scalar.select (Ideal.cmp .ogt (l e) m) (BitVec.ofNat 32 e.val) w) := by
  obtain ⟨i, hik, rfl, rfl, hle, hlt⟩ := h
  by_cases hg : l i < l e
  · have hc : Ideal.cmp .ogt (l e) (l i) = 1#1 := by simp [Ideal.cmp, hg]
    rw [hc]
    refine ⟨e, he.le, rfl, rfl, fun a ha => ?_, fun a ha => ?_⟩
    · rcases Nat.lt_or_ge k a.val with h1 | h1
      · rw [show a = e from Fin.ext (by omega)]
      · exact (hle a h1).trans hg.le
    · exact (hle a (by have := Fin.lt_def.1 ha; omega)).trans_lt hg
  · have hc : Ideal.cmp .ogt (l e) (l i) = 0#1 := by simp [Ideal.cmp, hg]
    rw [hc]
    refine ⟨i, by omega, rfl, rfl, fun a ha => ?_, hlt⟩
    rcases Nat.lt_or_ge k a.val with h1 | h1
    · rw [show a = e from Fin.ext (by omega)]; exact not_lt.1 hg
    · exact hle a h1

/-- After the last entry it is the top. -/
theorem RunTop.top {l : Fin 8 → EReal} {m : EReal} {w : BitVec 32} (h : RunTop l 7 m w) :
    ∃ i, IsTop l i ∧ m = l i ∧ w = BitVec.ofNat 32 i.val := by
  obtain ⟨i, -, hm, hw, hle, hlt⟩ := h
  exact ⟨i, ⟨fun e => hle e (by have := e.isLt; omega), hlt⟩, hm, hw⟩

/-- The first place is one. -/
theorem IsTop.unique {l : Fin 8 → EReal} {i j : Fin 8} (hi : IsTop l i) (hj : IsTop l j) : i = j := by
  rcases lt_trichotomy i j with h | h | h
  · exact absurd (hi.1 j) (not_le.2 (hj.2 i h))
  · exact h
  · exact absurd (hj.1 i) (not_le.2 (hi.2 j h))

/-! ## The head of a stable sort -/

/-- A stable sort of positions in increasing order puts first the position that nothing precedes and that precedes every
    earlier one. -/
theorem head_stableSort {n : ℕ} (before : Fin n → Fin n → Bool) (i : Fin n) :
    ∀ l : List (Fin n), l.Pairwise (· < ·) → i ∈ l → (∀ e ∈ l, before e i = false) → (∀ e ∈ l, e < i → before i e = true) →
      (stableSort before l).head? = some i
  | [], _, hi, _, _ => absurd hi List.not_mem_nil
  | a :: t, hp, hi, hno, hlt => by
    obtain ⟨hat, ht⟩ := List.pairwise_cons.1 hp
    unfold stableSort
    rcases List.mem_cons.1 hi with rfl | hit
    · rcases hs : stableSort before t with _ | ⟨b, s⟩
      · rfl
      · have hb : b ∈ t := (perm_stableSort before t).mem_iff.1 (hs ▸ List.mem_cons_self)
        unfold insertBefore
        rw [hno b (List.mem_cons_of_mem _ hb)]
        rfl
    · have ih := head_stableSort before i t ht hit (fun e he => hno e (List.mem_cons_of_mem _ he))
        fun e he => hlt e (List.mem_cons_of_mem _ he)
      rcases hs : stableSort before t with _ | ⟨b, s⟩
      · rw [hs] at ih; exact absurd ih (by simp)
      · rw [hs] at ih
        obtain rfl : b = i := by simpa using ih
        unfold insertBefore
        rw [hlt a List.mem_cons_self (hat b hit)]
        rfl

/-- A stable sort by "greater first" puts the first place of the maximum in front. -/
theorem sortedFrom_top {p : Fin 8 → EReal} {i : Fin 8} (h : IsTop p i) :
    sortedFrom (fun k k' => Ideal.cmpTotal .gt (p k) (p k') == 1#1) 0 = i := by
  have hc : ∀ a b : EReal, (Ideal.cmpTotal .gt a b == 1#1) = decide (b < a) := fun a b => by
    by_cases hab : b < a <;> simp [Ideal.cmpTotal, Ideal.cmp, CmpDirection.ordered, hab]
  have hh := head_stableSort (fun k k' => Ideal.cmpTotal .gt (p k) (p k') == 1#1) i (List.finRange 8)
    (List.pairwise_lt_finRange 8) (List.mem_finRange i) (fun e _ => by rw [hc]; simpa using h.1 e)
    fun e _ he => by rw [hc]; simpa using h.2 e he
  unfold sortedFrom sortPositions
  rw [List.get_eq_getElem]
  exact Option.some.inj ((List.getElem?_eq_getElem _).symm.trans ((List.head?_eq_getElem? (l := stableSort _ (List.finRange 8))).symm.trans hh))

/-! ## The softmax of eight reals -/

/-- The sum of the exponentials below the maximum. -/
def den (l : Fin 8 → EReal) (i : Fin 8) : EReal := ∑ e, Ideal.exp (l e - l i)

/-- A finite sum of reals is the real sum. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- At real logits the softmax has its top where the logits have theirs, and there it is the reciprocal of the sum. -/
theorem softmax_top {l : Fin 8 → EReal} (r : Fin 8 → ℝ) (hr : ∀ e, l e = (r e : EReal)) {i : Fin 8} (h : IsTop l i) :
    IsTop (fun e => Ideal.div (Ideal.exp (l e - l i)) (den l i)) i ∧
      Ideal.div (Ideal.exp (l i - l i)) (den l i) = Ideal.div 1 (den l i) := by
  have hx : ∀ e, Ideal.exp (l e - l i) = (Real.exp (r e - r i) : EReal) := fun e => by
    rw [hr e, hr i, ← EReal.coe_sub, Ideal.exp_coe]
  have hd : den l i = ((∑ e, Real.exp (r e - r i) : ℝ) : EReal) := by
    unfold den; rw [Finset.sum_congr rfl fun e _ => hx e, sum_coe]
  have hpos : 0 < ∑ e, Real.exp (r e - r i) := Finset.sum_pos (fun e _ => Real.exp_pos _) ⟨0, Finset.mem_univ _⟩
  have hq : ∀ e, Ideal.div (Ideal.exp (l e - l i)) (den l i) = ((Real.exp (r e - r i) * (1 / ∑ e, Real.exp (r e - r i)) : ℝ) : EReal) :=
    fun e => by rw [hx, hd, Ideal.div_coe hpos.ne', ← EReal.coe_mul]
  have hinv : 0 < 1 / ∑ e, Real.exp (r e - r i) := one_div_pos.2 hpos
  refine ⟨⟨fun e => ?_, fun e he => ?_⟩, ?_⟩
  · show Ideal.div _ _ ≤ Ideal.div _ _
    rw [hq, hq, EReal.coe_le_coe_iff]
    have := h.1 e
    rw [hr e, hr i, EReal.coe_le_coe_iff] at this
    exact mul_le_mul_of_nonneg_right (Real.exp_le_exp.2 (by linarith)) hinv.le
  · show Ideal.div _ _ < Ideal.div _ _
    rw [hq, hq, EReal.coe_lt_coe_iff]
    have := h.2 e he
    rw [hr e, hr i, EReal.coe_lt_coe_iff] at this
    exact mul_lt_mul_of_pos_right (Real.exp_lt_exp.2 (by linarith)) hinv
  · rw [hx, sub_self, Real.exp_zero, EReal.coe_one]

end Cert.Proof.Router

end
-- ==== Proof.Row.lean ====
/-
  The TensorCore's block at exact floats, row by row: the logits of a token, the score and the index it stores for it.
-/
module

public import proofs.«01_k».proof.Proof.Arrays
public import proofs.«01_k».proof.Proof.Top
public import Idealize.ShloMosaic.Lib.MatmulPlain
public import Idealize.ShloMosaic.Lib.IdealHost
public import Idealize.ShloMosaic.Lib.ValueLayout
public import Idealize.ShloMosaic.Lib.ValueLayoutCasts

@[expose] public section

set_option maxRecDepth 16384

noncomputable section

namespace Cert.Proof.Router

open Cert.KernelIdeal Cert.KernelIdeal.Gen

open Idealize.ShloMosaic hiding ix1 ix2 ix3 addf_apply subf_apply divf_apply
open Idealize.ShloMosaic.ValueIdx

/-- The word of −∞ reads as the least extended real. -/
theorem ofBits_neg_inf : Ideal.ofBits .f32 0xFF800000#32 = ⊥ := by simp [Ideal.ofBits, Ideal.ieee]

/-- A column broadcast along its row reads the column. -/
theorem broadcastTo_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section Block

variable (x : S4096x768.Idx → EReal) (W : S768x8.Idx → EReal) (B : S1x8.Idx → EReal)

/-- Row `r`'s logits. -/
def rowL (r : Fin 4096) (e : Fin 8) : EReal := (∑ k : Fin 768, x (ix2 r k) * W (ix2 k e)) + B (ix2 (0 : Fin 1) e)

theorem pay1_apply (r : Fin 4096) (e : Fin 8) : k0_pay1 (F := Ideal) x W B (ix2 r e) = rowL x W B r e := by
  unfold k0_pay1 rowL
  simp only [shapeCast_self, addf_apply]
  congr 1
  · refine (Ideal.matmul_plain_apply (M := 4096) (K := 768) (N := 8) none _ _ _ r e).trans ?_
    rw [constant_apply, Ideal.ofBits_zero_f32, zero_add]
  · exact broadcastTo_1b_ab_apply _ _ _ _

theorem pay2_apply (r : Fin 4096) (e : Fin 8) : k0_pay2 (F := Ideal) x W B (ix2 e r) = rowL x W B r e := by
  unfold k0_pay2
  exact (transpose_ix2_apply _ _ e r).trans (pay1_apply x W B r e)

/-- Inserting the second coordinate. -/
theorem lift_col {a : ℕ} (h : (⟨2, ![a, 8]⟩ : Shape).Reduces [1] ⟨1, ![a]⟩) (r : Fin a) (e : Fin 8) :
    h.lift (ix1 r) e = ix2 r e := by
  funext b
  match b with
  | ⟨0, _⟩ => exact Fin.ext rfl
  | ⟨1, _⟩ => exact Fin.ext rfl

theorem pay3_apply (r : Fin 4096) (i : Fin 8) (h : IsTop (rowL x W B r) i) (u : Fin 1) :
    k0_pay3 (F := Ideal) x W B (ix2 r u) = rowL x W B r i := by
  unfold k0_pay3
  refine (shapeCast_a_a1_apply _ _ r u).trans ?_
  refine (Ideal.multiReduction_maximumf_single _ _ _ _ _ (ix1 r)).trans ?_
  refine Eq.trans ?_ (fold_max_top h)
  rw [← ofBits_neg_inf]
  refine Finset.fold_congr fun (e : Fin 8) _ => ?_
  exact (congrArg (k0_pay1 (F := Ideal) x W B) (lift_col _ r e)).trans (pay1_apply x W B r e)

/-- The index that row `r` gets, -/
theorem pay4_apply (r : Fin 4096) (i : Fin 8) (h : IsTop (rowL x W B r) i) (u : Fin 1) :
    k0_pay4 (F := Ideal) x W B (ix2 r u) = BitVec.ofNat 32 i.val := by
  unfold k0_pay4
  refine (shapeCast_a_a1_apply _ _ r u).trans ?_
  refine (multiReductionI_eq_fold _ _ _ _ _ _).trans ?_
  refine (Shape.Reduces.fold_filter_drop_single _ _ _ _ _).trans ?_
  refine Eq.trans ?_ (fold_index_top h)
  refine Finset.fold_congr fun (e : Fin 8) _ => ?_
  refine (congrArg (select _ _ _) (lift_col _ r e)).trans ?_
  rw [select_apply, cmpf_apply, broadcastTo_col, pay3_apply x W B r i h, pay1_apply, iota_single_apply]
  rfl

/-- and the score. -/
theorem pay5_apply (r : Fin 4096) (i : Fin 8) (h : IsTop (rowL x W B r) i) (u : Fin 1) :
    k0_pay5 (F := Ideal) x W B (ix2 r u) = Ideal.div 1 (den (rowL x W B r) i) := by
  unfold k0_pay5
  rw [divf_apply]
  congr 1
  · exact Ideal.ofBits_one_f32
  · refine (shapeCast_a_a1_apply _ _ r u).trans ?_
    refine (Ideal.multiReduction_add_single _ _ _ _ _ (ix1 r)).trans ?_
    refine Finset.sum_congr rfl fun (e : Fin 8) _ => ?_
    refine (congrArg (exp (F := Ideal) _) (lift_col _ r e)).trans ?_
    refine congrArg Ideal.exp ?_
    rw [subf_apply, broadcastTo_col, pay3_apply x W B r i h, pay1_apply]

end Block

section Token

variable (X : S32768x768.Idx → EReal) (W : S768x8.Idx → EReal) (B : S1x8.Idx → EReal)

/-- Token `n`'s logits. -/
def tokL (n : Fin 32768) (e : Fin 8) : EReal := (∑ k : Fin 768, X (ix2 n k) * W (ix2 k e)) + B (ix2 (0 : Fin 1) e)

theorem rowL_tok (n : Fin 32768) : rowL (rowsX (F := Ideal) X (blkOf n)) W B (posOf n) = tokL X W B n := by
  funext e
  unfold rowL tokL
  congr 1
  refine Finset.sum_congr rfl fun k _ => ?_
  congr 1
  unfold rowsX
  refine congrArg X (funext fun a => Fin.ext ?_)
  match a with
  | 0 => exact Nat.div_add_mod n.val 4096
  | 1 => rfl

/-- The transposed logits are the tokens' logits; -/
theorem tcL_apply (e : Fin 8) (n : Fin 32768) : tcL (F := Ideal) X W B (ix2 e n) = tokL X W B n e := by
  have hi : (fun a => match a with | 0 => ix2 e n 0 | 1 => posOf (ix2 e n 1) : S8x4096.Idx) = ix2 e (posOf n) := by
    funext a
    match a with
    | 0 => rfl
    | 1 => rfl
  unfold tcL
  exact (congrArg (k0_pay2 (F := Ideal) (rowsX (F := Ideal) X (blkOf n)) W B) hi).trans
    ((pay2_apply _ W B (posOf n) e).trans (congrFun (rowL_tok X W B n) e))

/-- A token's place in its block's column. -/
theorem colOf (n : Fin 32768) (u : Fin 1) :
    (fun a => match a with | 0 => posOf (ix2 n u 0) | 1 => ix2 n u 1 : S4096x1.Idx) = ix2 (posOf n) u := by
  funext a
  match a with
  | 0 => rfl
  | 1 => rfl

/-- the scores are the reciprocals of the sums, -/
theorem tcS_apply (n : Fin 32768) (u : Fin 1) (i : Fin 8) (h : IsTop (tokL X W B n) i) :
    tcS (F := Ideal) X W B (ix2 n u) = Ideal.div 1 (den (tokL X W B n) i) := by
  have e := rowL_tok X W B n
  unfold tcS
  exact (congrArg (k0_pay5 (F := Ideal) (rowsX (F := Ideal) X (blkOf n)) W B) (colOf n u)).trans
    ((pay5_apply _ W B (posOf n) i (e.symm ▸ h) u).trans (congrArg (fun l => Ideal.div 1 (den l i)) e))

/-- and the indices the first places of the maxima. -/
theorem tcI_apply (n : Fin 32768) (u : Fin 1) (i : Fin 8) (h : IsTop (tokL X W B n) i) :
    tcI (F := Ideal) X W B (ix2 n u) = BitVec.ofNat 32 i.val := by
  have e := rowL_tok X W B n
  unfold tcI
  exact (congrArg (k0_pay4 (F := Ideal) (rowsX (F := Ideal) X (blkOf n)) W B) (colOf n u)).trans
    (pay4_apply _ W B (posOf n) i (e.symm ▸ h) u)

end Token

end Cert.Proof.Router

end
-- ==== Proof.Lane.lean ====
/-
  A SparseCore tile's lanes at exact floats: the score and the index a lane computes for its token.
-/
module

public import proofs.«01_k».proof.Proof.Tile
public import proofs.«01_k».proof.Proof.Row

@[expose] public section

set_option maxRecDepth 16384

noncomputable section

namespace Cert.Proof.Router

open Cert.KernelIdeal Cert.KernelIdeal.Gen

open Idealize.ShloMosaic hiding ix1 ix2 ix3 addf_apply subf_apply divf_apply
open Idealize.ShloMosaic.ValueIdx

section Scan

variable (l : Fin 8 → EReal) (j : S16.Idx)

/-- The scan of the first four experts keeps their first largest logit and its place. -/
theorem scan_low (r0 r1 r2 r3 : Vec Ideal S1x16 .f32) (h0 : k1_pay10 (F := Ideal) r0 j = l 0) (h1 : k1_pay11 (F := Ideal) r1 j = l 1)
    (h2 : k1_pay12 (F := Ideal) r2 j = l 2) (h3 : k1_pay13 (F := Ideal) r3 j = l 3) :
    RunTop l 3 (k1_pay23 (F := Ideal) r0 r1 r2 r3 j) (k1_pay24 (F := Ideal) r0 r1 r2 r3 j) := by
  have s := (((runTop_zero l).step 1 rfl).step 2 rfl).step 3 rfl
  rw [← h0, ← h1, ← h2, ← h3] at s
  exact s

/-- The largest logit once all eight are scanned. -/
def lastM (v27 v31 v35 v39 v50 : FVec Ideal S16 .f32) : EReal :=
  Scalar.select (k1_pay7 (F := Ideal) v27 v31 v35 v39 v50 j) (v39 j) (k1_pay6 (F := Ideal) v27 v31 v35 v50 j)

/-- The scan of the last four carries that on to all eight. -/
theorem scan_high (v27 v31 v35 v39 v50 : FVec Ideal S16 .f32) (v52 : IVec S16 32) (h4 : v27 j = l 4) (h5 : v31 j = l 5) (h6 : v35 j = l 6)
    (h7 : v39 j = l 7) (s : RunTop l 3 (v50 j) (v52 j)) :
    RunTop l 7 (lastM j v27 v31 v35 v39 v50) (k1_pay9 (F := Ideal) v27 v31 v35 v39 v50 v52 j) := by
  have s' := (((s.step 4 rfl).step 5 rfl).step 6 rfl).step 7 rfl
  rw [← h4, ← h5, ← h6, ← h7] at s'
  unfold k1_pay9
  rw [shapeCast_self]
  exact s'

/-- The score is one over the sum of the exponentials less the largest. -/
theorem score_eq (v11 v15 v19 v23 v27 v31 v35 v39 v50 : FVec Ideal S16 .f32) (i : Fin 8)
    (h : v11 j = l 0 ∧ v15 j = l 1 ∧ v19 j = l 2 ∧ v23 j = l 3 ∧ v27 j = l 4 ∧ v31 j = l 5 ∧ v35 j = l 6 ∧ v39 j = l 7)
    (hm : lastM j v27 v31 v35 v39 v50 = l i) :
    k1_pay8 (F := Ideal) v11 v15 v19 v23 v27 v31 v35 v39 v50 j = Ideal.div 1 (den l i) := by
  obtain ⟨h0, h1, h2, h3, h4, h5, h6, h7⟩ := h
  unfold k1_pay8
  rw [shapeCast_self]
  refine (divf_apply _ _ _).trans (congrArg₂ Ideal.div Ideal.ofBits_one_f32 ?_)
  unfold den
  rw [Fin.sum_univ_eight, ← hm, ← h0, ← h1, ← h2, ← h3, ← h4, ← h5, ← h6, ← h7]
  rfl

end Scan

section Rows

variable (G : S8x256.Idx → EReal) (x : S256.Idx)

/-- A token's eight logits in its tile. -/
def laneL (e : Fin 8) : EReal := G (ix2 e (x 0))

/-- A row of the tile's block, read at a chunk's place, holds at a lane that token's logit. -/
theorem row_lane (e : Fin 8) (off : Fin 2 → ℕ) (ho : off = ![e.val, 16 * (chunkOf x).val]) (inb : ∀ a, off a + S1x16.size a ≤ S8x256.size a) :
    shapeCast S16 ((Memref.whole (κ := .scVector) cc1_scratch0).view.readAt (Elt Ideal) (Rect.unit (s := S8x256) off S1x16.size inb).toLoadRect G) shapeCasts_S1x16_S16 (laneOf x)
      = laneL G x e := by
  subst ho
  have hj : laneOf x = ix1 (⟨(x 0).val % 16, Nat.mod_lt _ (by decide)⟩ : Fin 16) := by
    funext a
    match a with
    | 0 => rfl
  rw [hj]
  refine (shapeCast_1a_a_apply _ _ _).trans ?_
  refine congrArg G (funext fun a => Fin.ext ?_)
  match a with
  | 0 =>
    show e.val + 1 * 0 = e.val
    omega
  | 1 =>
    show 16 * ((x 0).val / 16) + 1 * ((x 0).val % 16) = (x 0).val
    omega

theorem lane0 : k1_pay10 (F := Ideal) (row0 G (chunkOf x)) (laneOf x) = laneL G x 0 := row_lane G x 0 _ (k1_off2_eq _) _
theorem lane1 : k1_pay11 (F := Ideal) (row1 G (chunkOf x)) (laneOf x) = laneL G x 1 := row_lane G x 1 _ (k1_off3_eq _) _
theorem lane2 : k1_pay12 (F := Ideal) (row2 G (chunkOf x)) (laneOf x) = laneL G x 2 := row_lane G x 2 _ (k1_off4_eq _) _
theorem lane3 : k1_pay13 (F := Ideal) (row3 G (chunkOf x)) (laneOf x) = laneL G x 3 := row_lane G x 3 _ (k1_off5_eq _) _
theorem lane4 : k1_pay14 (F := Ideal) (row4 G (chunkOf x)) (laneOf x) = laneL G x 4 := row_lane G x 4 _ (k1_off6_eq _) _
theorem lane5 : k1_pay15 (F := Ideal) (row5 G (chunkOf x)) (laneOf x) = laneL G x 5 := row_lane G x 5 _ (k1_off7_eq _) _
theorem lane6 : k1_pay16 (F := Ideal) (row6 G (chunkOf x)) (laneOf x) = laneL G x 6 := row_lane G x 6 _ (k1_off8_eq _) _
theorem lane7 : k1_pay17 (F := Ideal) (row7 G (chunkOf x)) (laneOf x) = laneL G x 7 := row_lane G x 7 _ (k1_off9_eq _) _

/-- Some expert is the first of the largest: the tile stores its index and its score. -/
theorem tile_top : ∃ i, IsTop (laneL G x) i ∧ tileS (F := Ideal) G x = Ideal.div 1 (den (laneL G x) i)
    ∧ tileI (F := Ideal) G x = BitVec.ofNat 32 i.val := by
  have s := scan_high (laneL G x) (laneOf x) _ _ _ _ _ _ (lane4 G x) (lane5 G x) (lane6 G x) (lane7 G x)
    (scan_low (laneL G x) (laneOf x) _ _ _ _ (lane0 G x) (lane1 G x) (lane2 G x) (lane3 G x))
  obtain ⟨i, hi, hm, hw⟩ := s.top
  exact ⟨i, hi, score_eq (laneL G x) (laneOf x) _ _ _ _ _ _ _ _ _ i
    ⟨lane0 G x, lane1 G x, lane2 G x, lane3 G x, lane4 G x, lane5 G x, lane6 G x, lane7 G x⟩ hm, hw⟩

end Rows

section Token

variable (X : S32768x768.Idx → EReal) (W : S768x8.Idx → EReal) (B : S1x8.Idx → EReal)

/-- The token of the whole batch that the SparseCore's `n`th is. -/
abbrev lateTok (n : Fin 8192) : Fin 32768 := ⟨24576 + n.val, by have := n.isLt; omega⟩

/-- A tile's logits at a token's place are the batch's at that token, -/
theorem laneL_block (g : S8x32768.Idx → EReal) (n : Fin 8192) (e : Fin 8) :
    laneL (blockL (F := Ideal) g (tileOf (ix1 n))) (tokOf (ix1 n)) e = g (ix2 e (lateTok n)) := by
  refine congrArg g (funext fun a => Fin.ext ?_)
  match a with
  | 0 => rfl
  | 1 =>
    show 24576 + 256 * (n.val / 256) + n.val % 256 = 24576 + n.val
    omega

/-- so they are the token's logits; -/
theorem laneL_tok (n : Fin 8192) :
    laneL (blockL (F := Ideal) (tcL (F := Ideal) X W B) (tileOf (ix1 n))) (tokOf (ix1 n)) = tokL X W B (lateTok n) :=
  funext fun e => (laneL_block _ n e).trans (tcL_apply X W B e (lateTok n))

/-- the SparseCore's scores are the reciprocals of the sums, -/
theorem coreS_apply (n : Fin 8192) (i : Fin 8) (h : IsTop (tokL X W B (lateTok n)) i) :
    coreS (F := Ideal) (tcL (F := Ideal) X W B) (ix1 n) = Ideal.div 1 (den (tokL X W B (lateTok n)) i) := by
  obtain ⟨k, hk, hs, -⟩ := tile_top (blockL (F := Ideal) (tcL (F := Ideal) X W B) (tileOf (ix1 n))) (tokOf (ix1 n))
  rw [laneL_tok] at hk hs
  rw [h.unique hk]
  exact hs

/-- and its indices the first places of the maxima. -/
theorem coreI_apply (n : Fin 8192) (i : Fin 8) (h : IsTop (tokL X W B (lateTok n)) i) :
    coreI (F := Ideal) (tcL (F := Ideal) X W B) (ix1 n) = BitVec.ofNat 32 i.val := by
  obtain ⟨k, hk, -, hw⟩ := tile_top (blockL (F := Ideal) (tcL (F := Ideal) X W B) (tileOf (ix1 n))) (tokOf (ix1 n))
  rw [laneL_tok] at hk
  rw [h.unique hk]
  exact hw

end Token

end Cert.Proof.Router

end
-- ==== Proof.Plain.lean ====
/-
  The plain router at exact floats, row by row: its logits, its softmax, and the first of the largest that its top-1 picks.
-/
module

public import proofs.«01_k».proof.Proof.Row
public import proofs.«01_k».proof.Proof.Gen.ReferenceIdeal
public import Idealize.ShloMosaic.Lib.StackMember

@[expose] public section

set_option maxRecDepth 16384

noncomputable section

namespace Cert.Proof.Router

open Cert.ReferenceIdeal Cert.ReferenceIdeal.Gen

open Idealize.ShloMosaic hiding ix1 ix2 ix3 addf_apply subf_apply divf_apply
open Idealize.ShloMosaic.ValueIdx

theorem reduces_row : S32768x8.Reduces [1] S32768 := by decide

/-- A vector set up as a column and copied along its rows reads at the row. -/
theorem spread_apply {α : Type} (v : S32768.Idx → α) (n : Fin 32768) (e : Fin 8) :
    broadcastInDim S32768x8 ![0, 1] bcast_S32768x1_S32768x8_0_1 (broadcastInDim S32768x1 ![0] bcast_S32768_S32768x1_0 v) (ix2 n e) = v (ix1 n) := by
  refine (broadcastInDim_apply _ _ _ (ix2 n e) (ix2 n (0 : Fin 1)) fun a => ?_).trans (broadcastInDim_apply _ _ _ _ (ix1 n) fun a => ?_)
  · match a with
    | ⟨0, _⟩ => rfl
    | ⟨1, _⟩ => rfl
  · match a with
    | ⟨0, _⟩ => rfl

section Softmax

/-- The rows' maxima, as the softmax takes them. -/
def plainM (LG : FVec Ideal S32768x8 .f32) : FVec Ideal S32768 .f32 :=
  maximumf (broadcastInDim S32768 ![] bcast_S_S32768 (constant S_ .f32 0xFF800000#32))
    (Host.reduce FloatOps.maximumf LG (constant S_ .f32 0xFF800000#32) reducesTo_S32768x8_S32768_d1 h_S_)
/-- The exponentials less the maxima, -/
def plainE (LG : FVec Ideal S32768x8 .f32) : FVec Ideal S32768x8 .f32 :=
  Host.exp (subf LG (broadcastInDim S32768x8 ![0, 1] bcast_S32768x1_S32768x8_0_1 (broadcastInDim S32768x1 ![0] bcast_S32768_S32768x1_0 (plainM LG))))
/-- and the softmax. -/
def plainP (LG : FVec Ideal S32768x8 .f32) : FVec Ideal S32768x8 .f32 :=
  Host.divf (plainE LG) (broadcastInDim S32768x8 ![0, 1] bcast_S32768x1_S32768x8_0_1 (broadcastInDim S32768x1 ![0] bcast_S32768_S32768x1_0
    (Host.reduceAdd (plainE LG) (constant S_ .f32 0x00000000#32) reducesTo_S32768x8_S32768_d1 h_S_)))

variable (LG : FVec Ideal S32768x8 .f32) (n : Fin 32768) (l : Fin 8 → EReal) (hl : ∀ e, LG (ix2 n e) = l e) (i : Fin 8) (h : IsTop l i)

include hl h in
theorem plainM_apply : plainM LG (ix1 n) = l i := by
  have hr : Host.reduce FloatOps.maximumf LG (constant S_ .f32 0xFF800000#32) reducesTo_S32768x8_S32768_d1 h_S_ (ix1 n) = l i := by
    refine (Host.reduce_eq_fold_single _ _ _ _ reduces_row _ (ix1 n)).trans ?_
    refine Eq.trans ?_ (fold_max_top h)
    rw [← ofBits_neg_inf]
    exact Finset.fold_congr fun (e : Fin 8) _ => (congrArg LG (lift_col _ n e)).trans (hl e)
  refine (congrArg₂ max (broadcastInDim_scalar_apply _ _ _) hr).trans ?_
  rw [constant_apply, ofBits_neg_inf]
  exact max_eq_right bot_le

include hl h in
theorem plainE_apply (e : Fin 8) : plainE LG (ix2 n e) = Ideal.exp (l e - l i) := by
  have hm := (spread_apply (plainM LG) n e).trans (plainM_apply LG n l hl i h)
  unfold plainE
  exact congrArg Ideal.exp (congrArg₂ (fun a b : EReal => a - b) (hl e) hm)

include hl h in
/-- The softmax of a row whose first largest logit stands at `i`. -/
theorem plainP_apply (e : Fin 8) : plainP LG (ix2 n e) = Ideal.div (Ideal.exp (l e - l i)) (den l i) := by
  unfold plainP
  refine (hostDivf_apply _ _ _).trans ?_
  rw [plainE_apply LG n l hl i h e, spread_apply]
  refine congrArg (Ideal.div _) ?_
  refine (hostReduceAdd_apply _ _ _ _ _).trans ((Ideal.hostReduceAdd_single _ reduces_row _ _ _).trans ?_)
  rw [constant_apply, Ideal.ofBits_zero_f32, zero_add]
  exact Finset.sum_congr rfl fun (e : Fin 8) _ => (congrArg (plainE LG) (lift_col _ n e)).trans (plainE_apply LG n l hl i h e)

/-- Moving along the row. -/
theorem along_row (k : Fin 8) : (ix2 n (0 : Fin 8) : S32768x8.Idx).along 1 k = ix2 n k := by
  funext a
  match a with
  | ⟨0, _⟩ => rfl
  | ⟨1, _⟩ => rfl

/-- The top-1 of a row whose first largest entry stands at `i` is that entry and its place. -/
theorem top1_apply (P : FVec Ideal S32768x8 .f32) (h : IsTop (fun e => P (ix2 n e)) i) (u : Fin 1) :
    (Host.topK S32768x1 1 (FloatOps.cmpfTotal .gt) P sliceFits_S32768x8_S32768x1).1 (ix2 n u) = P (ix2 n i)
      ∧ (Host.topK S32768x1 1 (FloatOps.cmpfTotal .gt) P sliceFits_S32768x8_S32768x1).2 (ix2 n u) = BitVec.ofNat 32 i.val := by
  have hu : u = 0 := Subsingleton.elim _ _
  subst hu
  have hs : sortedFrom (fun k k' : Fin 8 => Ideal.cmpTotal .gt (P ((ix2 n (0 : Fin 8) : S32768x8.Idx).along 1 k))
      (P ((ix2 n (0 : Fin 8) : S32768x8.Idx).along 1 k')) == 1#1) 0 = i := by
    refine Eq.trans ?_ (sortedFrom_top h)
    refine congrArg (fun f => sortedFrom f 0) (funext fun k => funext fun k' => ?_)
    rw [along_row, along_row]
  have hd : 1 < S32768x8.rank := by decide
  have h0 : ∀ a : Fin 2, ((ix2 n (0 : Fin 8) : S32768x8.Idx) a).val = 0 + ((ix2 n (0 : Fin 1) : S32768x1.Idx) a).val := fun a => by
    match a with
    | ⟨0, _⟩ => show n.val = 0 + n.val; omega
    | ⟨1, _⟩ => rfl
  unfold Host.topK Host.sort2
  simp only [dif_pos hd]
  refine ⟨(extractStridedSlice_apply _ _ _ _ (ix2 n (0 : Fin 8)) h0).trans ?_, (extractStridedSlice_apply _ _ _ _ (ix2 n (0 : Fin 8)) h0).trans ?_⟩
  · exact congrArg P ((congrArg ((ix2 n (0 : Fin 8) : S32768x8.Idx).along 1) hs).trans (along_row n i))
  · exact congrArg (fun k : Fin 8 => BitVec.ofNat 32 k.val) hs

end Softmax

end Cert.Proof.Router

end
-- ==== Proof.Reals.lean ====
/-
  What the precondition says of the arguments — every entry is a real number — and so of the logits.
-/
module

public import proofs.«01_k».proof.Proof.Plain
public import proofs.«01_k».proof.Proof.Gen.Pre_finite
public import Idealize.ShloMosaic.Lib.ReduceAll

@[expose] public section

set_option maxRecDepth 16384

noncomputable section

namespace Cert.Proof.Router

open Idealize.ShloMosaic hiding ix1 ix2 ix3 addf_apply subf_apply divf_apply
open Idealize.ShloMosaic.ValueIdx

/-- The word of +∞ reads as the greatest extended real. -/
theorem ofBits_pos_inf : Ideal.ofBits .f32 0x7F800000#32 = ⊤ := by simp [Ideal.ofBits, Ideal.ieee]

/-- An extended real whose absolute value is below +∞ is a real. -/
theorem real_of_abs {v : EReal} (h : Ideal.cmp .olt (max v (-v)) ⊤ = 1#1) : ∃ r : ℝ, v = (r : EReal) := by
  have hlt : max v (-v) < ⊤ := by
    by_contra hn
    simp [Ideal.cmp, hn] at h
  induction v using EReal.rec with
  | bot => simp at hlt
  | coe r => exact ⟨r, rfl⟩
  | top => simp at hlt

/-- An array whose entries all pass that test is an array of reals. -/
theorem reals_of_all {s t : Shape} {axes : List (Fin s.rank)} [Subsingleton t.Idx] (x : FVec Ideal s .f32)
    (hb : (⟨0, ![]⟩ : Shape).BroadcastsInDim s ![]) (h : s.ReducesTo axes t) (hu : 0 < (⟨0, ![]⟩ : Shape).numel) (j : t.Idx)
    (e : Host.reduce IntOp.andi (cmpf .olt (Host.absf x) (broadcastInDim s ![] hb (constant ⟨0, ![]⟩ .f32 0x7F800000#32)))
      (constantI ⟨0, ![]⟩ 1 1#1) h hu j = 1#1) (i : s.Idx) : ∃ r : ℝ, x i = (r : EReal) := by
  have hi := Host.reduce_andi_all _ _ _ _ j e i
  rw [cmpf_apply, broadcastInDim_scalar_apply, constant_apply, ofBits_pos_inf] at hi
  exact real_of_abs hi

section Args

open Cert.Pre_finite

variable (x : FVec Ideal S4x8192x768 .f32) (w : FVec Ideal S8x768 .f32) (b : FVec Ideal S8 .f32)

/-- The precondition: all three arguments are arrays of reals. -/
theorem reals_of_pre (h : Cert.Pre_finite.fn (F := Ideal) x w b = fun _ => 1#1) :
    (∀ i, ∃ r : ℝ, x i = (r : EReal)) ∧ (∀ i, ∃ r : ℝ, w i = (r : EReal)) ∧ ∀ i, ∃ r : ℝ, b i = (r : EReal) := by
  have h0 := congrFun h ValueIdx.ix0
  have : Subsingleton S_.Idx := ⟨fun p q => funext fun a => a.elim0⟩
  obtain ⟨h1, h2⟩ := IntOp.andi_eq_one.1 h0
  obtain ⟨h3, h4⟩ := IntOp.andi_eq_one.1 h1
  exact ⟨reals_of_all x _ _ _ ValueIdx.ix0 h3, reals_of_all w _ _ _ ValueIdx.ix0 h4, reals_of_all b _ _ _ ValueIdx.ix0 h2⟩

end Args

section Logits

open Cert.ReferenceIdeal Cert.ReferenceIdeal.Gen

/-- Logits of reals are reals. -/
theorem tokL_real (X : S32768x768.Idx → EReal) (W : S768x8.Idx → EReal) (B : S1x8.Idx → EReal) (hX : ∀ i, ∃ r : ℝ, X i = (r : EReal))
    (hW : ∀ i, ∃ r : ℝ, W i = (r : EReal)) (hB : ∀ i, ∃ r : ℝ, B i = (r : EReal)) (n : Fin 32768) :
    ∃ r : Fin 8 → ℝ, ∀ e, tokL X W B n e = (r e : EReal) := by
  choose rX hX using hX
  choose rW hW using hW
  choose rB hB using hB
  refine ⟨fun e => (∑ k : Fin 768, rX (ix2 n k) * rW (ix2 k e)) + rB (ix2 (0 : Fin 1) e), fun e => ?_⟩
  unfold tokL
  rw [EReal.coe_add, ← sum_coe, hB]
  congr 1
  refine Finset.sum_congr rfl fun k _ => ?_
  rw [hX, hW, EReal.coe_mul]

variable (x : FVec Ideal S4x8192x768 .f32) (w : FVec Ideal S8x768 .f32) (b : FVec Ideal S8 .f32)

/-- The arguments as the products take them: the tokens in one list, -/
def argX : S32768x768.Idx → EReal := shapeCast S32768x768 x shapeCasts_S4x8192x768_S32768x768
/-- the weights transposed, -/
def argW : S768x8.Idx → EReal := transpose S768x8 [1, 0] w transposes_S8x768_S768x8_1_0
/-- the bias as a row. -/
def argB : S1x8.Idx → EReal := fun i => b (ix1 (i 1))

/-- The plain router's logits, -/
def plainL : FVec Ideal S32768x8 .f32 :=
  addf (Host.dotGeneral dot_S32768x768_S768x8_S32768x8_1_0_0_1_n_n none (shapeCast _ x shapeCasts_S4x8192x768_S32768x768)
      (transpose S768x8 [1, 0] w transposes_S8x768_S768x8_1_0))
    (broadcastInDim S32768x8 ![0, 1] bcast_S1x8_S32768x8_0_1 (broadcastInDim S1x8 ![1] bcast_S8_S1x8_1 b))

/-- are the tokens' logits. -/
theorem plainL_apply (n : Fin 32768) (e : Fin 8) : plainL x w b (ix2 n e) = tokL (argX x) (argW w) (argB b) n e := by
  unfold plainL tokL
  rw [addf_apply]
  congr 1
  · exact StackMember.dotGeneral_plain_apply (m := 32768) (k := 768) (n := 8) none (argX x) (argW w) n e
  · refine (broadcastInDim_apply _ _ _ (ix2 n e) (ix2 (0 : Fin 1) e) fun a => ?_).trans (broadcastInDim_apply _ _ _ _ (ix1 e) fun a => ?_)
    · match a with
      | ⟨0, _⟩ => rfl
      | ⟨1, _⟩ => rfl
    · match a with
      | ⟨0, _⟩ => rfl

/-- Real arguments have real logits. -/
theorem logits_real (h : Cert.Pre_finite.fn (F := Ideal) x w b = fun _ => 1#1) (n : Fin 32768) :
    ∃ r : Fin 8 → ℝ, ∀ e, tokL (argX x) (argW w) (argB b) n e = (r e : EReal) := by
  obtain ⟨hx, hw, hb⟩ := reals_of_pre x w b h
  exact tokL_real _ _ _ (fun i => hx _) (fun i => hw _) (fun i => hb _) n

/-- The plain router's two results at a token whose first largest logit is expert `i`'s. -/
theorem plain_top (h : Cert.Pre_finite.fn (F := Ideal) x w b = fun _ => 1#1) (n : Fin 32768) (u : Fin 1) (i : Fin 8)
    (hi : IsTop (tokL (argX x) (argW w) (argB b) n) i) :
    (Host.topK S32768x1 1 (FloatOps.cmpfTotal .gt) (plainP (plainL x w b)) sliceFits_S32768x8_S32768x1).1 (ix2 n u)
        = Ideal.div 1 (den (tokL (argX x) (argW w) (argB b) n) i)
      ∧ (Host.topK S32768x1 1 (FloatOps.cmpfTotal .gt) (plainP (plainL x w b)) sliceFits_S32768x8_S32768x1).2 (ix2 n u) = BitVec.ofNat 32 i.val := by
  obtain ⟨r, hr⟩ := logits_real x w b h n
  have hp := plainP_apply (plainL x w b) n _ (plainL_apply x w b n) i hi
  obtain ⟨ht, hv⟩ := softmax_top r hr hi
  obtain ⟨h1, h2⟩ := top1_apply n i (plainP (plainL x w b)) ((funext hp).symm ▸ ht) u
  exact ⟨h1.trans ((hp i).trans hv), h2⟩

end Logits

end Cert.Proof.Router

end
-- ==== Proof.Values.lean ====
/-
  The router's two results at exact floats, token by token: the TensorCore's first 24576 rows and the SparseCore's last
  8192, joined, are what the plain router computes.
-/
module

public import proofs.«01_k».proof.Proof.Launch
public import proofs.«01_k».proof.Proof.Lane
public import proofs.«01_k».proof.Proof.Reals

@[expose] public section

set_option maxRecDepth 16384

noncomputable section

namespace Cert.Proof.Router

open Cert.KernelIdeal Cert.KernelIdeal.Gen

open Idealize.ShloMosaic hiding ix1 ix2 ix3 addf_apply subf_apply divf_apply
open Idealize.ShloMosaic.ValueIdx

/-- A column of 32768 made of the first 24576 of one and a list of 8192. -/
def joined {α : Type} (a : S32768x1.Idx → α) (b : S8192.Idx → α) : S32768x1.Idx → α :=
  concatenate S32768x1 0 [⟨S24576x1, extractStridedSlice S24576x1 ![0, 0] a slices_S32768x1_S24576x1_0_0⟩,
    ⟨S8192x1, shapeCast S8192x1 b shapeCasts_S8192_S8192x1⟩] concatenates_S24576x1_S8192x1_S32768x1_d0

/-- Where both parts hold a token's word, so does the joined column. -/
theorem joined_apply {α : Type} (a : S32768x1.Idx → α) (b : S8192.Idx → α) (v : Fin 32768 → α) (ha : ∀ n u, a (ix2 n u) = v n)
    (hb : ∀ n, b (ix1 n) = v (lateTok n)) (n : Fin 32768) (u : Fin 1) : joined a b (ix2 n u) = v n := by
  unfold joined
  by_cases hn : n.val < 24576
  · refine (concatenate_pair_apply_left (s₁ := S24576x1) (s₂ := S8192x1) 0 _ _ _ (ix2 n u) rfl (ix2 (⟨n.val, hn⟩ : Fin 24576) u) fun c => ?_).trans ?_
    · match c with
      | ⟨0, _⟩ => rfl
      | ⟨1, _⟩ => rfl
    · exact (slice2_axis0_apply 0 _ _ (⟨n.val, hn⟩ : Fin 24576) u n (Nat.zero_add _).symm).trans (ha n u)
  · have hk : n.val - 24576 < 8192 := by have := n.isLt; omega
    have hrest : ∀ c : Fin 2, c ≠ 0 → ((ix2 (⟨n.val - 24576, hk⟩ : Fin 8192) u : S8192x1.Idx) c).val = ((ix2 n u : S32768x1.Idx) c).val := by
      intro c hc
      obtain rfl : c = 1 := by omega
      rfl
    have e := concatenate_pair_apply_right (s₁ := S24576x1) (s₂ := S8192x1) (t := S32768x1) 0 (extractStridedSlice S24576x1 ![0, 0] a slices_S32768x1_S24576x1_0_0)
      (shapeCast S8192x1 b shapeCasts_S8192_S8192x1) concatenates_S24576x1_S8192x1_S32768x1_d0 (ix2 n u) rfl rfl (ix2 (⟨n.val - 24576, hk⟩ : Fin 8192) u)
      (fun c hc => hrest c fun e => hc (Fin.ext (congrArg Fin.val e)))
      (show n.val - 24576 + 24576 = n.val by omega)
    refine e.trans ?_
    · refine (shapeCast_a_a1_apply _ _ _ u).trans ((hb _).trans (congrArg v (Fin.ext ?_)))
      show 24576 + (n.val - 24576) = n.val
      omega

section Arrays

variable (m : (ℓ : Loc nD τ sig) → Buf (Elt Ideal) ℓ) (d : Dev nD)

/-- The three arguments. -/
abbrev inX : FVec Ideal S4x8192x768 .f32 := m (d, Proc.devRef .tc main_arg0)
abbrev inW : FVec Ideal S8x768 .f32 := m (d, Proc.devRef .tc main_arg1)
abbrev inB : FVec Ideal S8 .f32 := m (d, Proc.devRef .tc main_arg2)

/-- The kernels are given the tokens in one list, -/
theorem VB_x : VBr m d main_v0 = argX (inX m d) := by
  show VB m d (Proc.devRef .tc main_v0) = _
  unfold VB
  rw [StableHlo.reshape_result_ne' _ _ _ _ _ (by decide), StableHlo.unary_result_ne' _ _ _ _ (by decide), StableHlo.reshape_result']
  rfl
/-- the weights transposed, -/
theorem VB_w : VBr m d main_v1 = argW (inW m d) := by
  show VB m d (Proc.devRef .tc main_v1) = _
  unfold VB
  rw [StableHlo.reshape_result_ne' _ _ _ _ _ (by decide), StableHlo.unary_result', StableHlo.reshape_result_ne' _ _ _ _ _ (by decide)]
  rfl
/-- and the bias as a row. -/
theorem VB_b : VBr m d main_v2 = argB (inB m d) := by
  have h : VB m d (Proc.devRef .tc main_v2) = shapeCast S1x8 (inB m d) shapeCasts_S8_S1x8 := by
    unfold VB
    rw [StableHlo.reshape_result', StableHlo.unary_result_ne' _ _ _ _ (by decide), StableHlo.reshape_result_ne' _ _ _ _ _ (by decide)]
    rfl
  refine h.trans (funext fun i => ?_)
  rw [ValueIdx.eq_ix2 i]
  exact shapeCast_a_1a_apply _ _ _ _

/-- The logits, -/
theorem Lt_eq : Lt m d = tcL (F := Ideal) (argX (inX m d)) (argW (inW m d)) (argB (inB m d)) := by
  unfold Lt; rw [VB_x, VB_w, VB_b]

/-- the scores, joined, -/
theorem VE_scores : VE m d (Proc.devRef .tc main_v7)
    = joined (tcS (F := Ideal) (argX (inX m d)) (argW (inW m d)) (argB (inB m d)))
        (coreS (F := Ideal) (tcL (F := Ideal) (argX (inX m d)) (argW (inW m d)) (argB (inB m d)))) := by
  have h5 : VD m d (Proc.devRef .tc main_v3_1) = tcS (F := Ideal) (argX (inX m d)) (argW (inW m d)) (argB (inB m d)) := by
    rw [VD_of_ne m d _ (by decide) (by decide), VC_s, VB_x, VB_w, VB_b]
  have h6 : VD m d (Proc.devRef .tc main_v4_0) = coreS (F := Ideal) (tcL (F := Ideal) (argX (inX m d)) (argW (inW m d)) (argB (inB m d))) := by
    rw [← Lt_eq]; exact VD_sc m d
  rw [← h5, ← h6]
  unfold VE
  rw [StableHlo.binary_result_ne' _ _ _ _ _ (by decide), StableHlo.reshape_result_ne' _ _ _ _ _ (by decide), StableHlo.unary_result_ne' _ _ _ _ (by decide),
    StableHlo.binary_result', StableHlo.reshape_result', StableHlo.reshape_result_ne' _ _ _ _ _ (by decide), StableHlo.unary_result',
    StableHlo.unary_result_ne' _ _ _ _ (by decide)]
  rfl

/-- and the indices, joined. -/
theorem VE_indices : VE m d (Proc.devRef .tc main_v10)
    = joined (tcI (F := Ideal) (argX (inX m d)) (argW (inW m d)) (argB (inB m d)))
        (coreI (F := Ideal) (tcL (F := Ideal) (argX (inX m d)) (argW (inW m d)) (argB (inB m d)))) := by
  have h8 : VD m d (Proc.devRef .tc main_v3_2) = tcI (F := Ideal) (argX (inX m d)) (argW (inW m d)) (argB (inB m d)) := by
    rw [VD_of_ne m d _ (by decide) (by decide), VC_i, VB_x, VB_w, VB_b]
  have h9 : VD m d (Proc.devRef .tc main_v4_1) = coreI (F := Ideal) (tcL (F := Ideal) (argX (inX m d)) (argW (inW m d)) (argB (inB m d))) := by
    rw [← Lt_eq]; exact VD_ix m d
  rw [← h8, ← h9]
  unfold VE
  rw [StableHlo.binary_result', StableHlo.reshape_result', StableHlo.reshape_result_ne' _ _ _ _ _ (by decide), StableHlo.unary_result',
    StableHlo.unary_result_ne' _ _ _ _ (by decide), StableHlo.binary_result_ne' _ _ _ _ _ (by decide), StableHlo.binary_result_ne' _ _ _ _ _ (by decide),
    StableHlo.reshape_result_ne' _ _ _ _ _ (by decide), StableHlo.reshape_result_ne' _ _ _ _ _ (by decide),
    StableHlo.unary_result_ne' _ _ _ _ (by decide), StableHlo.unary_result_ne' _ _ _ _ (by decide)]
  rfl

/-- At real arguments both results are the plain router's. -/
theorem results_eq (h : Cert.Pre_finite.fn (F := Ideal) (inX m d) (inW m d) (inB m d) = fun _ => 1#1) :
    (Host.topK Cert.ReferenceIdeal.S32768x1 1 (FloatOps.cmpfTotal .gt) (plainP (plainL (inX m d) (inW m d) (inB m d)))
        Cert.ReferenceIdeal.Gen.sliceFits_S32768x8_S32768x1).1 = VE m d (Proc.devRef .tc main_v7)
      ∧ (Host.topK Cert.ReferenceIdeal.S32768x1 1 (FloatOps.cmpfTotal .gt) (plainP (plainL (inX m d) (inW m d) (inB m d)))
        Cert.ReferenceIdeal.Gen.sliceFits_S32768x8_S32768x1).2 = VE m d (Proc.devRef .tc main_v10) := by
  choose i hi using fun n => exists_top (tokL (argX (inX m d)) (argW (inW m d)) (argB (inB m d)) n)
  rw [VE_scores, VE_indices]
  constructor
  · funext j
    rw [ValueIdx.eq_ix2 j]
    refine (plain_top _ _ _ h _ _ _ (hi (j 0))).1.trans (Eq.symm ?_)
    exact joined_apply _ _ (fun n => Ideal.div 1 (den (tokL (argX (inX m d)) (argW (inW m d)) (argB (inB m d)) n) (i n)))
      (fun n u => tcS_apply _ _ _ n u _ (hi n)) (fun n => coreS_apply _ _ _ n _ (hi _)) (j 0) (j 1)
  · funext j
    rw [ValueIdx.eq_ix2 j]
    refine (plain_top _ _ _ h _ _ _ (hi (j 0))).2.trans (Eq.symm ?_)
    exact joined_apply _ _ (fun n => BitVec.ofNat 32 (i n).val)
      (fun n u => tcI_apply _ _ _ n u _ (hi n)) (fun n => coreI_apply _ _ _ n _ (hi _)) (j 0) (j 1)

end Arrays

end Cert.Proof.Router

end
-- ==== Proof.Equal.lean ====
/-
  The value claim: from real arguments the kernel and the plain router end with the same scores and the same indices.
-/
module

public import proofs.«01_k».proof.Proof.Frames
public import proofs.«01_k».proof.Proof.Values

@[expose] public section

set_option maxRecDepth 16384

noncomputable section

namespace Cert.Proof.Router

open Idealize.ShloMosaic
open Idealize.ShloMosaic.TcCoe
open Idealize.SL.Sem

/-- Both programs' runs, with the kernel's own results named: the reference's are the same arrays. -/
theorem algebraic : Cert.algebraic_KernelIdeal_ReferenceIdeal_pre_finite := by
  intro m g m' g' hpre hargs
  refine ⟨fun c => VE m c (Proc.devRef .tc Cert.KernelIdeal.main_v7), fun c => VE m c (Proc.devRef .tc Cert.KernelIdeal.main_v10),
    (θ_run _ _ _).mono (fun _ h c => ⟨(h.1 c).1.1, (h.1 c).1.2, (h.1 c).2⟩) (run_args (F := Ideal) m g), ?_⟩
  refine (θ_run _ _ _).mono (fun _ h c => ?_) (Cert.ReferenceIdeal.Value.run (F := Ideal) m' g')
  obtain ⟨hv, hi, ha⟩ := h c
  obtain ⟨h0, h1, h2⟩ := hargs c
  have he := results_eq m c (hpre c)
  rw [h0, h1, h2] at hv hi
  exact ⟨hv.trans he.1, hi.trans he.2, ha⟩

end Cert.Proof.Router

end
-- ==== Proof.lean ====
/-
  The certificate: the kernel runs without a fault at the machine's floats and at exact ones, and so does the reference;
  at exact floats, from real arguments, the two end with the same scores and indices.
-/
module

public import proofs.«01_k».proof.Defs
public import proofs.«01_k».proof.Proof.Gen.Pre_finite
public import proofs.«01_k».proof.Proof.Gen.ReferenceIdeal.Run
public import proofs.«01_k».proof.Proof.Equal

@[expose] public section

noncomputable section

namespace Cert.Proof

open Cert.Proof.Router

/-- The claims, each by its own theorem. -/
theorem claim : Cert.Claim :=
  ⟨Cert.Kernel.Gen.facts, Cert.KernelIdeal.Gen.facts, Cert.ReferenceIdeal.Gen.facts, Cert.Pre_finite.Gen.facts, frame_bits, frame_ideal,
    fun m g _ => frame_ideal m g trivial, frame_ref, fun m g _ => frame_ref m g trivial, trivial, algebraic⟩

end Cert.Proof

end
